-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![48, 1536]⟩ ⟨2, ![1536, 1536]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S48x1536 : Shape := ⟨2, ![48, 1536]⟩
abbrev S1488x1536 : Shape := ⟨2, ![1488, 1536]⟩
abbrev S5 : Shape := ⟨1, ![5]⟩
abbrev S_ : Shape := ⟨0, ![]⟩
abbrev S48x768 : Shape := ⟨2, ![48, 768]⟩
abbrev S768x768 : Shape := ⟨2, ![768, 768]⟩
abbrev S1 : Shape := ⟨1, ![1]⟩
abbrev S384x1536 : Shape := ⟨2, ![384, 1536]⟩
abbrev S192x1536 : Shape := ⟨2, ![192, 1536]⟩
abbrev S96x1536 : Shape := ⟨2, ![96, 1536]⟩

abbrev nBuf : Space → Nat
  | .hbm => 3
  | .vmem => 8
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S48x1536, .f32⟩
  | .local _ .vmem, ⟨0, _⟩ => ⟨S1536x768, .bf16⟩
  | .local _ .vmem, ⟨1, _⟩ => ⟨S768x1536, .bf16⟩
  | .local _ .vmem, ⟨2, _⟩ => ⟨S48x1536, .f32⟩
  | .local _ .vmem, ⟨3, _⟩ => ⟨S1536x768, .bf16⟩
  | .local _ .vmem, ⟨4, _⟩ => ⟨S768x1536, .bf16⟩
  | .local _ .vmem, ⟨5, _⟩ => ⟨S768x1536, .f32⟩
  | .local _ .vmem, ⟨6, _⟩ => ⟨S1488x1536, .bf16⟩
  | .local _ .vmem, ⟨7, _⟩ => ⟨S1488x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v23 : BitVec 32 := Scalar.xori v2 c1_i32_12
  let c1_i32_16 : BitVec 32 := 1#32
  let v29 : BitVec 32 := Scalar.muli v23 c1_i32_16
  let v30 : BitVec 32 := Scalar.addi c0_i32_17 v29
  v30.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v24 : BitVec 32 := Scalar.xori v2 c8_i32
  let c1_i32_19 : BitVec 32 := 1#32
  let v31 : BitVec 32 := Scalar.muli v24 c1_i32_19
  let v32 : BitVec 32 := Scalar.addi c0_i32_20 v31
  v32.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_13 : BitVec 32 := 2#32
  let v25 : BitVec 32 := Scalar.xori v2 c2_i32_13
  let c1_i32_22 : BitVec 32 := 1#32
  let v33 : BitVec 32 := Scalar.muli v25 c1_i32_22
  let v34 : BitVec 32 := Scalar.addi c0_i32_23 v33
  v34.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_14 : BitVec 32 := 4#32
  let v26 : BitVec 32 := Scalar.xori v2 c4_i32_14
  let c1_i32_25 : BitVec 32 := 1#32
  let v35 : BitVec 32 := Scalar.muli v26 c1_i32_25
  let v36 : BitVec 32 := Scalar.addi c0_i32_26 v35
  v36.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v27 : BitVec 32 := Scalar.xori v2 c16_i32
  let c1_i32_28 : BitVec 32 := 1#32
  let v37 : BitVec 32 := Scalar.muli v27 c1_i32_28
  let v38 : BitVec 32 := Scalar.addi c0_i32_29 v37
  v38.toNat
def k0_off1 (d0 : Dev nD) : Fin 2 → Nat :=
  let c0_i32_134 : BitVec 32 := 0#32
  let c1_i32_132 : BitVec 32 := 1#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let v206 : BitVec 32 := Scalar.subi c1_i32_132 v205
  let c16_i32_133 : BitVec 32 := 16#32
  let v207 : BitVec 32 := Scalar.muli v206 c16_i32_133
  let v208 : BitVec 32 := Scalar.addi c0_i32_134 v207
  let c48_i32 : BitVec 32 := 48#32
  let v211 : BitVec 32 := Scalar.muli v208 c48_i32
  let v212 : Index := Scalar.indexCast v211
  let c0_137 : Index := 0#32
  ![v212.toNat, 0]
def k0_dev6 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_12 : BitVec 32 := 1#32
  let v23 : BitVec 32 := Scalar.xori v2 c1_i32_12
  let c1_i32_144 : BitVec 32 := 1#32
  let v220 : BitVec 32 := Scalar.muli v23 c1_i32_144
  let v221 : BitVec 32 := Scalar.addi c0_i32_145 v220
  v221.toNat
def k0_off2 (d0 : Dev nD) : Fin 2 → Nat :=
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c48_i32_150 : BitVec 32 := 48#32
  let v228 : BitVec 32 := Scalar.muli v210 c48_i32_150
  let v229 : Index := Scalar.indexCast v228
  let c0_151 : Index := 0#32
  ![v229.toNat, 0]
def k0_off3 (d0 : Dev nD) : Fin 2 → Nat :=
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c1_i32_174 : BitVec 32 := 1#32
  let c3_i32_172 : BitVec 32 := 3#32
  let v246 : BitVec 32 := Scalar.shrsi v22 c3_i32_172
  let c1_i32_173 : BitVec 32 := 1#32
  let v247 : BitVec 32 := Scalar.andi v246 c1_i32_173
  let v248 : BitVec 32 := Scalar.subi c1_i32_174 v247
  let c8_i32_175 : BitVec 32 := 8#32
  let v249 : BitVec 32 := Scalar.muli v248 c8_i32_175
  let v250 : BitVec 32 := Scalar.addi v210 v249
  let v253 : BitVec 32 := Scalar.subi v250 v210
  let c48_i32_177 : BitVec 32 := 48#32
  let v254 : BitVec 32 := Scalar.muli v253 c48_i32_177
  let v255 : Index := Scalar.indexCast v254
  let c0_178 : Index := 0#32
  ![v255.toNat, 0]
def k0_off4 (d0 : Dev nD) : Fin 2 → Nat :=
  let c0_i32_179 : BitVec 32 := 0#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c1_i32_174 : BitVec 32 := 1#32
  let c3_i32_172 : BitVec 32 := 3#32
  let v246 : BitVec 32 := Scalar.shrsi v22 c3_i32_172
  let c1_i32_173 : BitVec 32 := 1#32
  let v247 : BitVec 32 := Scalar.andi v246 c1_i32_173
  let v248 : BitVec 32 := Scalar.subi c1_i32_174 v247
  let c8_i32_175 : BitVec 32 := 8#32
  let v249 : BitVec 32 := Scalar.muli v248 c8_i32_175
  let v250 : BitVec 32 := Scalar.addi v210 v249
  let v257 : BitVec 32 := Scalar.subi v250 v210
  let v258 : BitVec 32 := Scalar.addi c0_i32_179 v257
  let c48_i32_180 : BitVec 32 := 48#32
  let v259 : BitVec 32 := Scalar.muli v258 c48_i32_180
  let v260 : Index := Scalar.indexCast v259
  let c0_181 : Index := 0#32
  ![v260.toNat, 0]
def k0_dev7 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v24 : BitVec 32 := Scalar.xori v2 c8_i32
  let c1_i32_186 : BitVec 32 := 1#32
  let v268 : BitVec 32 := Scalar.muli v24 c1_i32_186
  let v269 : BitVec 32 := Scalar.addi c0_i32_187 v268
  v269.toNat
def k0_off5 (d0 : Dev nD) : Fin 2 → Nat :=
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c1_i32_208 : BitVec 32 := 1#32
  let c2_i32_206 : BitVec 32 := 2#32
  let v286 : BitVec 32 := Scalar.shrsi v22 c2_i32_206
  let c1_i32_207 : BitVec 32 := 1#32
  let v287 : BitVec 32 := Scalar.andi v286 c1_i32_207
  let v288 : BitVec 32 := Scalar.subi c1_i32_208 v287
  let c4_i32_209 : BitVec 32 := 4#32
  let v289 : BitVec 32 := Scalar.muli v288 c4_i32_209
  let v290 : BitVec 32 := Scalar.addi v252 v289
  let v293 : BitVec 32 := Scalar.subi v290 v210
  let c48_i32_211 : BitVec 32 := 48#32
  let v294 : BitVec 32 := Scalar.muli v293 c48_i32_211
  let v295 : Index := Scalar.indexCast v294
  let c0_212 : Index := 0#32
  ![v295.toNat, 0]
def k0_off6 (d0 : Dev nD) : Fin 2 → Nat :=
  let c0_i32_213 : BitVec 32 := 0#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c1_i32_208 : BitVec 32 := 1#32
  let c2_i32_206 : BitVec 32 := 2#32
  let v286 : BitVec 32 := Scalar.shrsi v22 c2_i32_206
  let c1_i32_207 : BitVec 32 := 1#32
  let v287 : BitVec 32 := Scalar.andi v286 c1_i32_207
  let v288 : BitVec 32 := Scalar.subi c1_i32_208 v287
  let c4_i32_209 : BitVec 32 := 4#32
  let v289 : BitVec 32 := Scalar.muli v288 c4_i32_209
  let v290 : BitVec 32 := Scalar.addi v252 v289
  let v297 : BitVec 32 := Scalar.subi v290 v210
  let v298 : BitVec 32 := Scalar.addi c0_i32_213 v297
  let c48_i32_214 : BitVec 32 := 48#32
  let v299 : BitVec 32 := Scalar.muli v298 c48_i32_214
  let v300 : Index := Scalar.indexCast v299
  let c0_215 : Index := 0#32
  ![v300.toNat, 0]
def k0_off7 (d0 : Dev nD) : Fin 2 → Nat :=
  let c16_i32_216 : BitVec 32 := 16#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c1_i32_208 : BitVec 32 := 1#32
  let c2_i32_206 : BitVec 32 := 2#32
  let v286 : BitVec 32 := Scalar.shrsi v22 c2_i32_206
  let c1_i32_207 : BitVec 32 := 1#32
  let v287 : BitVec 32 := Scalar.andi v286 c1_i32_207
  let v288 : BitVec 32 := Scalar.subi c1_i32_208 v287
  let c4_i32_209 : BitVec 32 := 4#32
  let v289 : BitVec 32 := Scalar.muli v288 c4_i32_209
  let v290 : BitVec 32 := Scalar.addi v252 v289
  let v304 : BitVec 32 := Scalar.subi v290 v252
  let v305 : BitVec 32 := Scalar.addi c16_i32_216 v304
  let c48_i32_217 : BitVec 32 := 48#32
  let v306 : BitVec 32 := Scalar.muli v305 c48_i32_217
  let v307 : Index := Scalar.indexCast v306
  let c0_218 : Index := 0#32
  ![v307.toNat, 0]
def k0_dev8 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_13 : BitVec 32 := 2#32
  let v25 : BitVec 32 := Scalar.xori v2 c2_i32_13
  let c1_i32_223 : BitVec 32 := 1#32
  let v315 : BitVec 32 := Scalar.muli v25 c1_i32_223
  let v316 : BitVec 32 := Scalar.addi c0_i32_224 v315
  v316.toNat
def k0_off8 (d0 : Dev nD) : Fin 2 → Nat :=
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_245 : BitVec 32 := 1#32
  let c1_i32_243 : BitVec 32 := 1#32
  let v333 : BitVec 32 := Scalar.shrsi v22 c1_i32_243
  let c1_i32_244 : BitVec 32 := 1#32
  let v334 : BitVec 32 := Scalar.andi v333 c1_i32_244
  let v335 : BitVec 32 := Scalar.subi c1_i32_245 v334
  let c2_i32_246 : BitVec 32 := 2#32
  let v336 : BitVec 32 := Scalar.muli v335 c2_i32_246
  let v337 : BitVec 32 := Scalar.addi v292 v336
  let v340 : BitVec 32 := Scalar.subi v337 v210
  let c48_i32_248 : BitVec 32 := 48#32
  let v341 : BitVec 32 := Scalar.muli v340 c48_i32_248
  let v342 : Index := Scalar.indexCast v341
  let c0_249 : Index := 0#32
  ![v342.toNat, 0]
def k0_off9 (d0 : Dev nD) : Fin 2 → Nat :=
  let c0_i32_250 : BitVec 32 := 0#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_245 : BitVec 32 := 1#32
  let c1_i32_243 : BitVec 32 := 1#32
  let v333 : BitVec 32 := Scalar.shrsi v22 c1_i32_243
  let c1_i32_244 : BitVec 32 := 1#32
  let v334 : BitVec 32 := Scalar.andi v333 c1_i32_244
  let v335 : BitVec 32 := Scalar.subi c1_i32_245 v334
  let c2_i32_246 : BitVec 32 := 2#32
  let v336 : BitVec 32 := Scalar.muli v335 c2_i32_246
  let v337 : BitVec 32 := Scalar.addi v292 v336
  let v344 : BitVec 32 := Scalar.subi v337 v210
  let v345 : BitVec 32 := Scalar.addi c0_i32_250 v344
  let c48_i32_251 : BitVec 32 := 48#32
  let v346 : BitVec 32 := Scalar.muli v345 c48_i32_251
  let v347 : Index := Scalar.indexCast v346
  let c0_252 : Index := 0#32
  ![v347.toNat, 0]
def k0_off10 (d0 : Dev nD) : Fin 2 → Nat :=
  let c16_i32_253 : BitVec 32 := 16#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_245 : BitVec 32 := 1#32
  let c1_i32_243 : BitVec 32 := 1#32
  let v333 : BitVec 32 := Scalar.shrsi v22 c1_i32_243
  let c1_i32_244 : BitVec 32 := 1#32
  let v334 : BitVec 32 := Scalar.andi v333 c1_i32_244
  let v335 : BitVec 32 := Scalar.subi c1_i32_245 v334
  let c2_i32_246 : BitVec 32 := 2#32
  let v336 : BitVec 32 := Scalar.muli v335 c2_i32_246
  let v337 : BitVec 32 := Scalar.addi v292 v336
  let v351 : BitVec 32 := Scalar.subi v337 v252
  let v352 : BitVec 32 := Scalar.addi c16_i32_253 v351
  let c48_i32_254 : BitVec 32 := 48#32
  let v353 : BitVec 32 := Scalar.muli v352 c48_i32_254
  let v354 : Index := Scalar.indexCast v353
  let c0_255 : Index := 0#32
  ![v354.toNat, 0]
def k0_off11 (d0 : Dev nD) : Fin 2 → Nat :=
  let c24_i32 : BitVec 32 := 24#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_245 : BitVec 32 := 1#32
  let c1_i32_243 : BitVec 32 := 1#32
  let v333 : BitVec 32 := Scalar.shrsi v22 c1_i32_243
  let c1_i32_244 : BitVec 32 := 1#32
  let v334 : BitVec 32 := Scalar.andi v333 c1_i32_244
  let v335 : BitVec 32 := Scalar.subi c1_i32_245 v334
  let c2_i32_246 : BitVec 32 := 2#32
  let v336 : BitVec 32 := Scalar.muli v335 c2_i32_246
  let v337 : BitVec 32 := Scalar.addi v292 v336
  let v358 : BitVec 32 := Scalar.subi v337 v292
  let v359 : BitVec 32 := Scalar.addi c24_i32 v358
  let c48_i32_256 : BitVec 32 := 48#32
  let v360 : BitVec 32 := Scalar.muli v359 c48_i32_256
  let v361 : Index := Scalar.indexCast v360
  let c0_257 : Index := 0#32
  ![v361.toNat, 0]
def k0_dev9 (d0 : Dev nD) : Nat :=
  let c0_i32_263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_14 : BitVec 32 := 4#32
  let v26 : BitVec 32 := Scalar.xori v2 c4_i32_14
  let c1_i32_262 : BitVec 32 := 1#32
  let v369 : BitVec 32 := Scalar.muli v26 c1_i32_262
  let v370 : BitVec 32 := Scalar.addi c0_i32_263 v369
  v370.toNat
def k0_off12 (d0 : Dev nD) : Fin 2 → Nat :=
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_243 : BitVec 32 := 1#32
  let v333 : BitVec 32 := Scalar.shrsi v22 c1_i32_243
  let c1_i32_244 : BitVec 32 := 1#32
  let v334 : BitVec 32 := Scalar.andi v333 c1_i32_244
  let c2_i32_247 : BitVec 32 := 2#32
  let v338 : BitVec 32 := Scalar.muli v334 c2_i32_247
  let v339 : BitVec 32 := Scalar.addi v292 v338
  let c1_i32_284 : BitVec 32 := 1#32
  let c0_i32_282 : BitVec 32 := 0#32
  let v387 : BitVec 32 := Scalar.shrsi v22 c0_i32_282
  let c1_i32_283 : BitVec 32 := 1#32
  let v388 : BitVec 32 := Scalar.andi v387 c1_i32_283
  let v389 : BitVec 32 := Scalar.subi c1_i32_284 v388
  let c1_i32_285 : BitVec 32 := 1#32
  let v390 : BitVec 32 := Scalar.muli v389 c1_i32_285
  let v391 : BitVec 32 := Scalar.addi v339 v390
  let v394 : BitVec 32 := Scalar.subi v391 v210
  let c48_i32_287 : BitVec 32 := 48#32
  let v395 : BitVec 32 := Scalar.muli v394 c48_i32_287
  let v396 : Index := Scalar.indexCast v395
  let c0_288 : Index := 0#32
  ![v396.toNat, 0]
def k0_off13 (d0 : Dev nD) : Fin 2 → Nat :=
  let c0_i32_289 : BitVec 32 := 0#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_243 : BitVec 32 := 1#32
  let v333 : BitVec 32 := Scalar.shrsi v22 c1_i32_243
  let c1_i32_244 : BitVec 32 := 1#32
  let v334 : BitVec 32 := Scalar.andi v333 c1_i32_244
  let c2_i32_247 : BitVec 32 := 2#32
  let v338 : BitVec 32 := Scalar.muli v334 c2_i32_247
  let v339 : BitVec 32 := Scalar.addi v292 v338
  let c1_i32_284 : BitVec 32 := 1#32
  let c0_i32_282 : BitVec 32 := 0#32
  let v387 : BitVec 32 := Scalar.shrsi v22 c0_i32_282
  let c1_i32_283 : BitVec 32 := 1#32
  let v388 : BitVec 32 := Scalar.andi v387 c1_i32_283
  let v389 : BitVec 32 := Scalar.subi c1_i32_284 v388
  let c1_i32_285 : BitVec 32 := 1#32
  let v390 : BitVec 32 := Scalar.muli v389 c1_i32_285
  let v391 : BitVec 32 := Scalar.addi v339 v390
  let v398 : BitVec 32 := Scalar.subi v391 v210
  let v399 : BitVec 32 := Scalar.addi c0_i32_289 v398
  let c48_i32_290 : BitVec 32 := 48#32
  let v400 : BitVec 32 := Scalar.muli v399 c48_i32_290
  let v401 : Index := Scalar.indexCast v400
  let c0_291 : Index := 0#32
  ![v401.toNat, 0]
def k0_off14 (d0 : Dev nD) : Fin 2 → Nat :=
  let c16_i32_292 : BitVec 32 := 16#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_243 : BitVec 32 := 1#32
  let v333 : BitVec 32 := Scalar.shrsi v22 c1_i32_243
  let c1_i32_244 : BitVec 32 := 1#32
  let v334 : BitVec 32 := Scalar.andi v333 c1_i32_244
  let c2_i32_247 : BitVec 32 := 2#32
  let v338 : BitVec 32 := Scalar.muli v334 c2_i32_247
  let v339 : BitVec 32 := Scalar.addi v292 v338
  let c1_i32_284 : BitVec 32 := 1#32
  let c0_i32_282 : BitVec 32 := 0#32
  let v387 : BitVec 32 := Scalar.shrsi v22 c0_i32_282
  let c1_i32_283 : BitVec 32 := 1#32
  let v388 : BitVec 32 := Scalar.andi v387 c1_i32_283
  let v389 : BitVec 32 := Scalar.subi c1_i32_284 v388
  let c1_i32_285 : BitVec 32 := 1#32
  let v390 : BitVec 32 := Scalar.muli v389 c1_i32_285
  let v391 : BitVec 32 := Scalar.addi v339 v390
  let v405 : BitVec 32 := Scalar.subi v391 v252
  let v406 : BitVec 32 := Scalar.addi c16_i32_292 v405
  let c48_i32_293 : BitVec 32 := 48#32
  let v407 : BitVec 32 := Scalar.muli v406 c48_i32_293
  let v408 : Index := Scalar.indexCast v407
  let c0_294 : Index := 0#32
  ![v408.toNat, 0]
def k0_off15 (d0 : Dev nD) : Fin 2 → Nat :=
  let c24_i32_295 : BitVec 32 := 24#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_243 : BitVec 32 := 1#32
  let v333 : BitVec 32 := Scalar.shrsi v22 c1_i32_243
  let c1_i32_244 : BitVec 32 := 1#32
  let v334 : BitVec 32 := Scalar.andi v333 c1_i32_244
  let c2_i32_247 : BitVec 32 := 2#32
  let v338 : BitVec 32 := Scalar.muli v334 c2_i32_247
  let v339 : BitVec 32 := Scalar.addi v292 v338
  let c1_i32_284 : BitVec 32 := 1#32
  let c0_i32_282 : BitVec 32 := 0#32
  let v387 : BitVec 32 := Scalar.shrsi v22 c0_i32_282
  let c1_i32_283 : BitVec 32 := 1#32
  let v388 : BitVec 32 := Scalar.andi v387 c1_i32_283
  let v389 : BitVec 32 := Scalar.subi c1_i32_284 v388
  let c1_i32_285 : BitVec 32 := 1#32
  let v390 : BitVec 32 := Scalar.muli v389 c1_i32_285
  let v391 : BitVec 32 := Scalar.addi v339 v390
  let v412 : BitVec 32 := Scalar.subi v391 v292
  let v413 : BitVec 32 := Scalar.addi c24_i32_295 v412
  let c48_i32_296 : BitVec 32 := 48#32
  let v414 : BitVec 32 := Scalar.muli v413 c48_i32_296
  let v415 : Index := Scalar.indexCast v414
  let c0_297 : Index := 0#32
  ![v415.toNat, 0]
def k0_off16 (d0 : Dev nD) : Fin 2 → Nat :=
  let c28_i32 : BitVec 32 := 28#32
  let c0_i32_136 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_243 : BitVec 32 := 1#32
  let v333 : BitVec 32 := Scalar.shrsi v22 c1_i32_243
  let c1_i32_244 : BitVec 32 := 1#32
  let v334 : BitVec 32 := Scalar.andi v333 c1_i32_244
  let c2_i32_247 : BitVec 32 := 2#32
  let v338 : BitVec 32 := Scalar.muli v334 c2_i32_247
  let v339 : BitVec 32 := Scalar.addi v292 v338
  let c1_i32_284 : BitVec 32 := 1#32
  let c0_i32_282 : BitVec 32 := 0#32
  let v387 : BitVec 32 := Scalar.shrsi v22 c0_i32_282
  let c1_i32_283 : BitVec 32 := 1#32
  let v388 : BitVec 32 := Scalar.andi v387 c1_i32_283
  let v389 : BitVec 32 := Scalar.subi c1_i32_284 v388
  let c1_i32_285 : BitVec 32 := 1#32
  let v390 : BitVec 32 := Scalar.muli v389 c1_i32_285
  let v391 : BitVec 32 := Scalar.addi v339 v390
  let v419 : BitVec 32 := Scalar.subi v391 v339
  let v420 : BitVec 32 := Scalar.addi c28_i32 v419
  let c48_i32_298 : BitVec 32 := 48#32
  let v421 : BitVec 32 := Scalar.muli v420 c48_i32_298
  let v422 : Index := Scalar.indexCast v421
  let c0_299 : Index := 0#32
  ![v422.toNat, 0]
def k0_dev10 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v27 : BitVec 32 := Scalar.xori v2 c16_i32
  let c1_i32_304 : BitVec 32 := 1#32
  let v430 : BitVec 32 := Scalar.muli v27 c1_i32_304
  let v431 : BitVec 32 := Scalar.addi c0_i32_305 v430
  v431.toNat
def k0_off17 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c0_i32_136 : BitVec 32 := 0#32
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let v448 : BitVec 32 := Scalar.subi v22 v210
  let c48_i32_324 : BitVec 32 := 48#32
  let v449 : BitVec 32 := Scalar.muli v448 c48_i32_324
  let v450 : Index := Scalar.indexCast v449
  let c0_325 : Index := 0#32
  ![v450.toNat, 0]
def k0_off18 (d0 : Dev nD) : Fin 2 → Nat :=
  let c0_i32_326 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c0_i32_136 : BitVec 32 := 0#32
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let v452 : BitVec 32 := Scalar.subi v22 v210
  let v453 : BitVec 32 := Scalar.addi c0_i32_326 v452
  let c48_i32_327 : BitVec 32 := 48#32
  let v454 : BitVec 32 := Scalar.muli v453 c48_i32_327
  let v455 : Index := Scalar.indexCast v454
  let c0_328 : Index := 0#32
  ![v455.toNat, 0]
def k0_off19 (d0 : Dev nD) : Fin 2 → Nat :=
  let c16_i32_329 : BitVec 32 := 16#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c0_i32_136 : BitVec 32 := 0#32
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let v459 : BitVec 32 := Scalar.subi v22 v252
  let v460 : BitVec 32 := Scalar.addi c16_i32_329 v459
  let c48_i32_330 : BitVec 32 := 48#32
  let v461 : BitVec 32 := Scalar.muli v460 c48_i32_330
  let v462 : Index := Scalar.indexCast v461
  let c0_331 : Index := 0#32
  ![v462.toNat, 0]
def k0_off20 (d0 : Dev nD) : Fin 2 → Nat :=
  let c24_i32_332 : BitVec 32 := 24#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c0_i32_136 : BitVec 32 := 0#32
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let v466 : BitVec 32 := Scalar.subi v22 v292
  let v467 : BitVec 32 := Scalar.addi c24_i32_332 v466
  let c48_i32_333 : BitVec 32 := 48#32
  let v468 : BitVec 32 := Scalar.muli v467 c48_i32_333
  let v469 : Index := Scalar.indexCast v468
  let c0_334 : Index := 0#32
  ![v469.toNat, 0]
def k0_off21 (d0 : Dev nD) : Fin 2 → Nat :=
  let c28_i32_335 : BitVec 32 := 28#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c0_i32_136 : BitVec 32 := 0#32
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_243 : BitVec 32 := 1#32
  let v333 : BitVec 32 := Scalar.shrsi v22 c1_i32_243
  let c1_i32_244 : BitVec 32 := 1#32
  let v334 : BitVec 32 := Scalar.andi v333 c1_i32_244
  let c2_i32_247 : BitVec 32 := 2#32
  let v338 : BitVec 32 := Scalar.muli v334 c2_i32_247
  let v339 : BitVec 32 := Scalar.addi v292 v338
  let v473 : BitVec 32 := Scalar.subi v22 v339
  let v474 : BitVec 32 := Scalar.addi c28_i32_335 v473
  let c48_i32_336 : BitVec 32 := 48#32
  let v475 : BitVec 32 := Scalar.muli v474 c48_i32_336
  let v476 : Index := Scalar.indexCast v475
  let c0_337 : Index := 0#32
  ![v476.toNat, 0]
def k0_off22 (d0 : Dev nD) : Fin 2 → Nat :=
  let c30_i32 : BitVec 32 := 30#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v3 : BitVec 32 := Scalar.shrsi v2 c0_i32
  let c1_i32_0 : BitVec 32 := 1#32
  let v4 : BitVec 32 := Scalar.andi v3 c1_i32_0
  let c4_i32 : BitVec 32 := 4#32
  let v5 : BitVec 32 := Scalar.shli v4 c4_i32
  let v6 : BitVec 32 := Scalar.ori c0_i32_1 v5
  let c3_i32 : BitVec 32 := 3#32
  let v7 : BitVec 32 := Scalar.shrsi v2 c3_i32
  let c1_i32_2 : BitVec 32 := 1#32
  let v8 : BitVec 32 := Scalar.andi v7 c1_i32_2
  let c3_i32_3 : BitVec 32 := 3#32
  let v9 : BitVec 32 := Scalar.shli v8 c3_i32_3
  let v10 : BitVec 32 := Scalar.ori v6 v9
  let c1_i32_4 : BitVec 32 := 1#32
  let v11 : BitVec 32 := Scalar.shrsi v2 c1_i32_4
  let c1_i32_5 : BitVec 32 := 1#32
  let v12 : BitVec 32 := Scalar.andi v11 c1_i32_5
  let c2_i32 : BitVec 32 := 2#32
  let v13 : BitVec 32 := Scalar.shli v12 c2_i32
  let v14 : BitVec 32 := Scalar.ori v10 v13
  let c2_i32_6 : BitVec 32 := 2#32
  let v15 : BitVec 32 := Scalar.shrsi v2 c2_i32_6
  let c1_i32_7 : BitVec 32 := 1#32
  let v16 : BitVec 32 := Scalar.andi v15 c1_i32_7
  let c1_i32_8 : BitVec 32 := 1#32
  let v17 : BitVec 32 := Scalar.shli v16 c1_i32_8
  let v18 : BitVec 32 := Scalar.ori v14 v17
  let c4_i32_9 : BitVec 32 := 4#32
  let v19 : BitVec 32 := Scalar.shrsi v2 c4_i32_9
  let c1_i32_10 : BitVec 32 := 1#32
  let v20 : BitVec 32 := Scalar.andi v19 c1_i32_10
  let c0_i32_11 : BitVec 32 := 0#32
  let v21 : BitVec 32 := Scalar.shli v20 c0_i32_11
  let v22 : BitVec 32 := Scalar.ori v18 v21
  let c0_i32_136 : BitVec 32 := 0#32
  let c4_i32_130 : BitVec 32 := 4#32
  let v204 : BitVec 32 := Scalar.shrsi v22 c4_i32_130
  let c1_i32_131 : BitVec 32 := 1#32
  let v205 : BitVec 32 := Scalar.andi v204 c1_i32_131
  let c16_i32_135 : BitVec 32 := 16#32
  let v209 : BitVec 32 := Scalar.muli v205 c16_i32_135
  let v210 : BitVec 32 := Scalar.addi c0_i32_136 v209
  let c3_i32_172 : BitVec 32 := 3#32
  let v246 : BitVec 32 := Scalar.shrsi v22 c3_i32_172
  let c1_i32_173 : BitVec 32 := 1#32
  let v247 : BitVec 32 := Scalar.andi v246 c1_i32_173
  let c8_i32_176 : BitVec 32 := 8#32
  let v251 : BitVec 32 := Scalar.muli v247 c8_i32_176
  let v252 : BitVec 32 := Scalar.addi v210 v251
  let c2_i32_206 : BitVec 32 := 2#32
  let v286 : BitVec 32 := Scalar.shrsi v22 c2_i32_206
  let c1_i32_207 : BitVec 32 := 1#32
  let v287 : BitVec 32 := Scalar.andi v286 c1_i32_207
  let c4_i32_210 : BitVec 32 := 4#32
  let v291 : BitVec 32 := Scalar.muli v287 c4_i32_210
  let v292 : BitVec 32 := Scalar.addi v252 v291
  let c1_i32_243 : BitVec 32 := 1#32
  let v333 : BitVec 32 := Scalar.shrsi v22 c1_i32_243
  let c1_i32_244 : BitVec 32 := 1#32
  let v334 : BitVec 32 := Scalar.andi v333 c1_i32_244
  let c2_i32_247 : BitVec 32 := 2#32
  let v338 : BitVec 32 := Scalar.muli v334 c2_i32_247
  let v339 : BitVec 32 := Scalar.addi v292 v338
  let c0_i32_282 : BitVec 32 := 0#32
  let v387 : BitVec 32 := Scalar.shrsi v22 c0_i32_282
  let c1_i32_283 : BitVec 32 := 1#32
  let v388 : BitVec 32 := Scalar.andi v387 c1_i32_283
  let c1_i32_286 : BitVec 32 := 1#32
  let v392 : BitVec 32 := Scalar.muli v388 c1_i32_286
  let v393 : BitVec 32 := Scalar.addi v339 v392
  let v480 : BitVec 32 := Scalar.subi v22 v393
  let v481 : BitVec 32 := Scalar.addi c30_i32 v480
  let c48_i32_338 : BitVec 32 := 48#32
  let v482 : BitVec 32 := Scalar.muli v481 c48_i32_338
  let v483 : Index := Scalar.indexCast v482
  let c0_339 : Index := 0#32
  ![v483.toNat, 0]
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩

abbrev nBuf : Space → Nat
  | .hbm => 5
  | .vmem => 0
  | .smem => 0
  | _ => 0

abbrev bufTy : (tb : Table) → Fin (tcTables nBuf tb) → BufTy
  | .hbm, ⟨0, _⟩ => ⟨S1536x24576, .bf16⟩
  | .hbm, ⟨1, _⟩ => ⟨S24576x1536, .bf16⟩
  | .hbm, ⟨2, _⟩ => ⟨S1536x1536, .f32⟩
  | .hbm, ⟨3, _⟩ => ⟨S1536x1536, .bf16⟩
  | .hbm, ⟨4, _⟩ => ⟨S1536x1536, .f32⟩
  | _, _ => ⟨S1536x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Contents.lean ====
/-
# What the kernel's buffers hold

The mesh of 32 devices seen as a five-dimensional cube, the five steps of the recursive halving, the regions of the
send and receive buffers, and the CONTENTS each buffer holds: the permuted rows of the left operand, the kept half of
the product, what each step sends and what lands, and the block each device returns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.Sem

variable {F : FTy → Type} [FloatOps F]

/-! ## The cube -/

/-- The bit of the device number that step `s` works on. -/
def bitOf : Fin 5 → ℕ := ![0, 3, 1, 2, 4]

theorem partner_lt (s : Fin 5) (c : Dev nD) : c.val ^^^ 2 ^ bitOf s < nD := by revert s c; decide +kernel

set_option backward.proofsInPublic true in
/-- Device `c`'s partner at step `s`: the device whose number differs in that step's bit. -/
def partner (s : Fin 5) (c : Dev nD) : Dev nD := ⟨c.val ^^^ 2 ^ bitOf s, partner_lt s c⟩

/-- The partner's partner is the device itself. -/
theorem partner_partner (s : Fin 5) (c : Dev nD) : partner s (partner s c) = c := by revert s c; decide +kernel
/-- The partners of one device at two steps differ. -/
theorem partner_inj (c : Dev nD) (s t : Fin 5) (h : partner s c = partner t c) : s = t := by
  revert s t c; decide +kernel

/-- Step `s`'s exchange of the devices. -/
def swap (s : Fin 5) : Dev nD ≃ Dev nD := ⟨partner s, partner s, partner_partner s, partner_partner s⟩

/-- The device numbers the kernel computes are the partners: its five signals, then its five transfers. -/
theorem dev1_eq (c : Dev nD) : (⟨k0_dev1 c, k0_dev1_lt c⟩ : Dev nD) = partner 0 c := by revert c; decide +kernel
theorem dev2_eq (c : Dev nD) : (⟨k0_dev2 c, k0_dev2_lt c⟩ : Dev nD) = partner 1 c := by revert c; decide +kernel
theorem dev3_eq (c : Dev nD) : (⟨k0_dev3 c, k0_dev3_lt c⟩ : Dev nD) = partner 2 c := by revert c; decide +kernel
theorem dev4_eq (c : Dev nD) : (⟨k0_dev4 c, k0_dev4_lt c⟩ : Dev nD) = partner 3 c := by revert c; decide +kernel
theorem dev5_eq (c : Dev nD) : (⟨k0_dev5 c, k0_dev5_lt c⟩ : Dev nD) = partner 4 c := by revert c; decide +kernel
theorem dev6_eq (c : Dev nD) : (⟨k0_dev6 c, k0_dev6_lt c⟩ : Dev nD) = partner 0 c := by revert c; decide +kernel
theorem dev7_eq (c : Dev nD) : (⟨k0_dev7 c, k0_dev7_lt c⟩ : Dev nD) = partner 1 c := by revert c; decide +kernel
theorem dev8_eq (c : Dev nD) : (⟨k0_dev8 c, k0_dev8_lt c⟩ : Dev nD) = partner 2 c := by revert c; decide +kernel
theorem dev9_eq (c : Dev nD) : (⟨k0_dev9 c, k0_dev9_lt c⟩ : Dev nD) = partner 3 c := by revert c; decide +kernel
theorem dev10_eq (c : Dev nD) : (⟨k0_dev10 c, k0_dev10_lt c⟩ : Dev nD) = partner 4 c := by revert c; decide +kernel

/-! ## The buffers and their regions -/

abbrev xM : Memref sig .tc .vmem S1536x768 .bf16 := Memref.whole cc0_stg0_0
abbrev bM : Memref sig .tc .vmem S768x1536 .bf16 := Memref.whole cc0_stg1_0
abbrev oM : Memref sig .tc .vmem S48x1536 .f32 := Memref.whole cc0_stg2_0
abbrev pM : Memref sig .tc .vmem S1536x768 .bf16 := Memref.whole cc0_scratch0
abbrev kM : Memref sig .tc .vmem S768x1536 .bf16 := Memref.whole cc0_scratch1
abbrev aM : Memref sig .tc .vmem S768x1536 .f32 := Memref.whole cc0_scratch2
abbrev sM : Memref sig .tc .vmem S1488x1536 .bf16 := Memref.whole cc0_scratch3
abbrev rM : Memref sig .tc .vmem S1488x1536 .bf16 := Memref.whole cc0_scratch4

/-- The first row of step `s`'s region of the send and receive buffers, and how many rows it has. -/
abbrev top : Fin 5 → ℕ := ![0, 768, 1152, 1344, 1440]
abbrev tall : Fin 5 → ℕ := ![768, 384, 192, 96, 48]

theorem tall_pos (s : Fin 5) : 0 < tall s := by revert s; decide

/-- A region as a shape of its own. -/
abbrev shp (s : Fin 5) : Shape := ⟨2, ![tall s, 1536]⟩

theorem reg_inb (s : Fin 5) : ∀ a, (![top s, 0] : Fin 2 → ℕ) a + (![tall s, 1536] : Fin 2 → ℕ) a ≤ S1488x1536.size a := by
  revert s; decide

/-- Step `s`'s rectangle of rows. -/
abbrev reg (s : Fin 5) : Rect S1488x1536 := Rect.unit (s := S1488x1536) ![top s, 0] ![tall s, 1536] (reg_inb s)

/-- Step `s`'s region of the send buffer and of the receive buffer. -/
abbrev sR (s : Fin 5) : Memref sig .tc .vmem (shp s) .bf16 := sM.slice (reg s) (fun _ => rfl)
abbrev rR (s : Fin 5) : Memref sig .tc .vmem (shp s) .bf16 := rM.slice (reg s) (fun _ => rfl)

/-- The row of step `s`'s region under row `i` of the buffer (meaningful inside the region). -/
def inReg (s : Fin 5) (i : S1488x1536.Idx) : (shp s).Idx := fun a => match a with
  | ⟨0, _⟩ => ⟨((i 0).val - top s) % tall s, Nat.mod_lt _ (tall_pos s)⟩
  | ⟨1, _⟩ => ⟨(i 1).val, (i 1).isLt⟩

theorem inReg_emb (s : Fin 5) (j : (shp s).Idx) : inReg s ((reg s).emb j) = j := by
  funext a
  match a with
  | ⟨0, _⟩ =>
    apply Fin.ext
    show (top s + 1 * (j 0).val - top s) % tall s = (j 0).val
    have : (j 0).val < tall s := (j 0).isLt
    rw [Nat.one_mul, Nat.add_sub_cancel_left, Nat.mod_eq_of_lt this]
  | ⟨1, _⟩ =>
    apply Fin.ext
    show 0 + 1 * (j 1).val = (j 1).val
    omega

/-! ## The contents -/

/-- The chunk of rows that slot `p` of the permuted operand holds: the slot's bits put back at the places the steps
    take them from. -/
def chunkAt (p : ℕ) : ℕ := p / 16 % 2 + p / 8 % 2 * 8 + p / 4 % 2 * 2 + p / 2 % 2 * 4 + p % 2 * 16

theorem chunkAt_lt (p : ℕ) : chunkAt p < 32 := by unfold chunkAt; omega

/-- The row of the operand that row `i` of its permuted copy holds. -/
def rowAt (i : S1536x768.Idx) : S1536x768.Idx := fun a => match a with
  | ⟨0, _⟩ => ⟨chunkAt ((i 0).val / 48) * 48 + (i 0).val % 48, by
      show chunkAt ((i 0).val / 48) * 48 + (i 0).val % 48 < 1536
      have := chunkAt_lt ((i 0).val / 48); omega⟩
  | ⟨1, _⟩ => ⟨(i 1).val, (i 1).isLt⟩

variable (m : (ℓ : Loc nD τ sig) → Buf (Elt F) ℓ)

/-- Device `c`'s columns of the left operand and its rows of the right one, as staged. -/
def xA (c : Dev nD) : (cc0_stg0_0 : Ref sig .tc).ty.Contents (Elt F) :=
  (win0_0.blk (0 : Fin 1)).view.read (Elt F) (m ((c : Thread nD τ).loc main_arg0))
def xB (c : Dev nD) : (cc0_stg1_0 : Ref sig .tc).ty.Contents (Elt F) :=
  (win0_1.blk (0 : Fin 1)).view.read (Elt F) (m ((c : Thread nD τ).loc main_arg1))

/-- The left operand with its chunks of rows in slot order. -/
def permA (c : Dev nD) : (cc0_scratch0 : Ref sig .tc).ty.Contents (Elt F) := fun i => xA m c (rowAt i)
/-- The copy of the right operand. -/
def copyB (c : Dev nD) : (cc0_scratch1 : Ref sig .tc).ty.Contents (Elt F) := k0_pay2 (xB m c)

/-- The rows of the permuted operand from row `off 0` on. -/
abbrev ldP (c : Dev nD) (off : Fin 2 → ℕ) (h : ∀ a, off a + S768x768.size a ≤ S1536x768.size a) : Vec F S768x768 .bf16 :=
  pM.view.readAt (Elt F) (Rect.unit (s := S1536x768) off S768x768.size h).toLoadRect (permA m c)

/-- The half of the product device `c` keeps. -/
def accA (c : Dev nD) : (cc0_scratch2 : Ref sig .tc).ty.Contents (Elt F) :=
  k0_pay41 (ldP m c (k0_off2 c) (k0_off2_inb c)) (copyB m c)

/-- What the receive buffer holds in step `s`'s region when every device sends `w`: the partner's `w`. -/
def landAt (s : Fin 5) (w : Dev nD → (shp s).Idx → Elt F .bf16) (c : Dev nD) : (cc0_scratch4 : Ref sig .tc).ty.Contents (Elt F) :=
  fun i => w (partner s c) (inReg s i)

/-- Rows of the receive buffer at contents `f`. -/
abbrev ldR (f : (cc0_scratch4 : Ref sig .tc).ty.Contents (Elt F)) (off : Fin 2 → ℕ) (size : Fin 2 → ℕ)
    (h : ∀ a, off a + size a ≤ S1488x1536.size a) : (Rect.unit (s := S1488x1536) off size h).toLoadRect.shape.Idx → Elt F .bf16 :=
  rM.view.readAt (Elt F) (Rect.unit (s := S1488x1536) off size h).toLoadRect f

/-- What device `c` sends at each step, in the kernel's own words: the other half of the product; then the rows the
    partner keeps of its running sum. -/
def sent0 (c : Dev nD) : (shp 0).Idx → Elt F .bf16 :=
  k0_pay40 (ldP m c (k0_off1 c) (k0_off1_inb c)) (copyB m c)
def sent1 (c : Dev nD) : (shp 1).Idx → Elt F .bf16 :=
  k0_pay43 (k0_pay42
    (aM.view.readAt (Elt F) (Rect.unit (s := S768x1536) (k0_off3 c) S384x1536.size (k0_off3_inb c)).toLoadRect (accA m c))
    (ldR (landAt 0 (sent0 m) c) (k0_off4 c) S384x1536.size (k0_off4_inb c)))
def sent2 (c : Dev nD) : (shp 2).Idx → Elt F .bf16 :=
  k0_pay44
    (aM.view.readAt (Elt F) (Rect.unit (s := S768x1536) (k0_off5 c) S192x1536.size (k0_off5_inb c)).toLoadRect (accA m c))
    (ldR (landAt 0 (sent0 m) c) (k0_off6 c) S192x1536.size (k0_off6_inb c))
    (ldR (landAt 1 (sent1 m) c) (k0_off7 c) S192x1536.size (k0_off7_inb c))
def sent3 (c : Dev nD) : (shp 3).Idx → Elt F .bf16 :=
  k0_pay46 (k0_pay45
    (aM.view.readAt (Elt F) (Rect.unit (s := S768x1536) (k0_off8 c) S96x1536.size (k0_off8_inb c)).toLoadRect (accA m c))
    (ldR (landAt 0 (sent0 m) c) (k0_off9 c) S96x1536.size (k0_off9_inb c))
    (ldR (landAt 1 (sent1 m) c) (k0_off10 c) S96x1536.size (k0_off10_inb c)))
    (ldR (landAt 2 (sent2 m) c) (k0_off11 c) S96x1536.size (k0_off11_inb c))
def sent4 (c : Dev nD) : (shp 4).Idx → Elt F .bf16 :=
  k0_pay47
    (aM.view.readAt (Elt F) (Rect.unit (s := S768x1536) (k0_off12 c) S48x1536.size (k0_off12_inb c)).toLoadRect (accA m c))
    (ldR (landAt 0 (sent0 m) c) (k0_off13 c) S48x1536.size (k0_off13_inb c))
    (ldR (landAt 1 (sent1 m) c) (k0_off14 c) S48x1536.size (k0_off14_inb c))
    (ldR (landAt 2 (sent2 m) c) (k0_off15 c) S48x1536.size (k0_off15_inb c))
    (ldR (landAt 3 (sent3 m) c) (k0_off16 c) S48x1536.size (k0_off16_inb c))

/-- The five together. -/
def sent (s : Fin 5) (c : Dev nD) : (shp s).Idx → Elt F .bf16 := match s with
  | 0 => sent0 m c | 1 => sent1 m c | 2 => sent2 m c | 3 => sent3 m c | 4 => sent4 m c

/-- What the receive buffer of device `c` holds in step `s`'s region once the partner's transfer landed. -/
abbrev landed (s : Fin 5) (c : Dev nD) : (cc0_scratch4 : Ref sig .tc).ty.Contents (Elt F) := landAt s (sent m s) c

/-- The block device `c` returns. -/
def outV (c : Dev nD) : (cc0_stg2_0 : Ref sig .tc).ty.Contents (Elt F) :=
  k0_pay1 (k0_pay48
    (aM.view.readAt (Elt F) (Rect.unit (s := S768x1536) (k0_off17 c) S48x1536.size (k0_off17_inb c)).toLoadRect (accA m c))
    (ldR (landed m 0 c) (k0_off18 c) S48x1536.size (k0_off18_inb c)))
    (ldR (landed m 1 c) (k0_off19 c) S48x1536.size (k0_off19_inb c))
    (ldR (landed m 2 c) (k0_off20 c) S48x1536.size (k0_off20_inb c))
    (ldR (landed m 3 c) (k0_off21 c) S48x1536.size (k0_off21_inb c))
    (ldR (landed m 4 c) (k0_off22 c) S48x1536.size (k0_off22_inb c))

end Cert.KernelIdeal.Cube

end
-- ==== Proof.Protocol.lean ====
/-
# Who signals, copies and waits

Eleven semaphores of each device take part. Its barrier semaphore is signalled once by each of its five partners, who
thereby lend it the region of their receive buffer it will copy into. Each step's receive semaphore is raised by the
partner's transfer, which hands over the region holding what the partner sent; each step's send semaphore by the device's
own transfer, which gives the region of the send buffer back. One round each.
-/
module

public import proofs.«01_k».proof.Proof.Contents

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's, and the exchange's with duties named by the step -/

abbrev UX : Type := URounds (GSem nD τ sig) (Fin 5)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## The cells -/

/-- The barrier semaphore, and each step's send and receive semaphore. -/
abbrev barS : Sem sig := (SemArray.scalar (sig.barrier 0 rfl) : Sems sig S_).sem
abbrev sendS (s : Fin 5) : DmaSem sig := ⟨3 + s.val, by have := s.isLt; show 3 + s.val < 13; omega⟩
abbrev recvS (s : Fin 5) : DmaSem sig := ⟨8 + s.val, by have := s.isLt; show 8 + s.val < 13; omega⟩

abbrev barC (c : Dev nD) : GSem nD τ sig := ((c : Thread nD τ), .reg barS)
abbrev sendC (s : Fin 5) (c : Dev nD) : GSem nD τ sig := ((c : Thread nD τ), .dma (sendS s))
abbrev recvC (s : Fin 5) (c : Dev nD) : GSem nD τ sig := ((c : Thread nD τ), .dma (recvS s))

/-- One region's transfer credit. -/
abbrev cr (s : Fin 5) : ℕ := (rR s).view.dmaCredit
theorem cr_pos (s : Fin 5) : 0 < cr s := View.dmaCredit_pos _ (by revert s; decide)

/-! ## What is held of the two buffers -/

/-- Step `s`'s region of device `c`'s receive buffer, and of its send buffer. -/
def rPts (s : Fin 5) (c : Dev nD) (f : (cc0_scratch4 : Ref sig .tc).ty.Contents (Elt F)) : sProp 𝕄 :=
  (rR s).view.loc (c : Thread nD τ) ↦[(rR s).view.set]{fullShare} f
def sPts (s : Fin 5) (c : Dev nD) (f : (cc0_scratch3 : Ref sig .tc).ty.Contents (Elt F)) : sProp 𝕄 :=
  (sR s).view.loc (c : Thread nD τ) ↦[(sR s).view.set]{fullShare} f

omit [FloatOps F] in
instance rPts_storable (s : Fin 5) (c : Dev nD) (f) : BI.Storable (upEmb : UEmb _ 𝕄) (rPts (F := F) s c f) := by unfold rPts; infer_instance
omit [FloatOps F] in
instance sPts_storable (s : Fin 5) (c : Dev nD) (f) : BI.Storable (upEmb : UEmb _ 𝕄) (sPts (F := F) s c f) := by unfold sPts; infer_instance

variable (m : (ℓ : Loc nD τ sig) → Buf (Elt F) ℓ)

/-! ## The schedule -/

/-- The step a send or receive semaphore belongs to. -/
def stepOf (q : DmaSem sig) : Fin 5 := ⟨(if 8 ≤ q.val then q.val - 8 else q.val - 3) % 5, Nat.mod_lt _ (by decide)⟩
theorem stepOf_send (s : Fin 5) : stepOf (sendS s) = s := by revert s; decide
theorem stepOf_recv (s : Fin 5) : stepOf (recvS s) = s := by revert s; decide
theorem recv_ge (s : Fin 5) : 8 ≤ (recvS s).val := Nat.le_add_right _ _
theorem send_lt (s : Fin 5) : ¬ 8 ≤ (sendS s).val := by have := s.isLt; show ¬ 8 ≤ 3 + s.val; omega
theorem sendS_inj {s t : Fin 5} (h : sendS s = sendS t) : s = t := by rw [← stepOf_send s, h, stepOf_send]
theorem recvS_inj {s t : Fin 5} (h : recvS s = recvS t) : s = t := by rw [← stepOf_recv s, h, stepOf_recv]

/-- What the partner of step `s` hands over with its signal: its receive region of that step. -/
def barPay (s : Fin 5) (c : Dev nD) : sProp 𝕄 := iprop(∃ f, rPts s (partner s c) f)
/-- What the partner's transfer hands over: the receive region holding what the partner sent. -/
def recvPay (s : Fin 5) (c : Dev nD) : sProp 𝕄 := rPts s c (landed m s c)
/-- What the device's own transfer gives back: its send region. -/
def sendPay (s : Fin 5) (c : Dev nD) : sProp 𝕄 := iprop(∃ f, sPts s c f)

abbrev IsBar (g : GSem nD τ sig) : Prop := g.1.2 = .tc ∧ g.2 = .reg barS
abbrev IsX (g : GSem nD τ sig) : Prop := g.1.2 = .tc ∧ ∃ s : Fin 5, g.2 = .dma (sendS s) ∨ g.2 = .dma (recvS s)

/-- One round: a barrier cell has a duty of one unit for each step, a send or receive cell one duty of its region's
    credit. -/
def sched : Rounds.Schedule (GSem nD τ sig) (Fin 5) 𝕄 where
  duties g r := if r = 0 ∧ IsBar g then Finset.univ else if r = 0 ∧ IsX g then {0} else ∅
  unitless _ := False
  amount g _ _ := match g.2 with | .reg _ => 1 | .dma q => cr (stepOf q)
  payload g _ d := match g.2 with
    | .reg _ => barPay d g.1.1
    | .dma q => if 8 ≤ q.val then recvPay m (stepOf q) g.1.1 else sendPay (stepOf q) g.1.1
  amount_pos g _ _ _ := by
    rcases g with ⟨t, _ | q⟩
    · exact Nat.one_pos
    · exact cr_pos (stepOf q)

instance sched_payload_storable (g : GSem nD τ sig) (r : ℕ) (d : Fin 5) :
    BI.Storable (upEmb : UEmb _ 𝕄) ((sched (F := F) m).payload g r d) := by
  rcases g with ⟨t, q | q⟩
  · show BI.Storable upEmb (barPay d t.1)
    unfold barPay; infer_instance
  · show BI.Storable upEmb (if 8 ≤ q.val then recvPay m (stepOf q) t.1 else sendPay (stepOf q) t.1)
    unfold recvPay sendPay
    split <;> infer_instance

section Tables
variable (s : Fin 5) (c : Dev nD)

theorem duties_bar : (sched (F := F) m).duties (barC c) 0 = Finset.univ := by dsimp only [sched]; exact if_pos ⟨rfl, rfl, rfl⟩
theorem duties_send : (sched (F := F) m).duties (sendC s c) 0 = {0} := by
  dsimp only [sched]; rw [if_neg (fun h => by cases h.2.2)]; exact if_pos ⟨rfl, rfl, s, .inl rfl⟩
theorem duties_recv : (sched (F := F) m).duties (recvC s c) 0 = {0} := by
  dsimp only [sched]; rw [if_neg (fun h => by cases h.2.2)]; exact if_pos ⟨rfl, rfl, s, .inr rfl⟩
theorem duties_later (g : GSem nD τ sig) : ∀ r, 1 ≤ r → (sched (F := F) m).duties g r = ∅ :=
  fun r hr => by dsimp only [sched]; rw [if_neg fun h => by omega, if_neg fun h => by omega]

theorem amount_bar (d : Fin 5) : (sched (F := F) m).amount (barC c) 0 d = 1 := rfl
theorem amount_send (d : Fin 5) : (sched (F := F) m).amount (sendC s c) 0 d = cr s := by
  show cr (stepOf (sendS s)) = cr s; rw [stepOf_send]
theorem amount_recv (d : Fin 5) : (sched (F := F) m).amount (recvC s c) 0 d = cr s := by
  show cr (stepOf (recvS s)) = cr s; rw [stepOf_recv]

theorem expect_bar : (sched (F := F) m).expect (barC c) 0 = 5 := by
  unfold Schedule.expect Schedule.amountOf
  rw [duties_bar, Finset.sum_congr rfl fun d _ => amount_bar m c d]; rfl
theorem expect_send : (sched (F := F) m).expect (sendC s c) 0 = cr s := by
  unfold Schedule.expect Schedule.amountOf; rw [duties_send, Finset.sum_singleton, amount_send]
theorem expect_recv : (sched (F := F) m).expect (recvC s c) 0 = cr s := by
  unfold Schedule.expect Schedule.amountOf; rw [duties_recv, Finset.sum_singleton, amount_recv]

theorem payload_bar (d : Fin 5) : (sched (F := F) m).payload (barC c) 0 d = barPay d c := rfl
theorem payload_send (d : Fin 5) : (sched (F := F) m).payload (sendC s c) 0 d = sendPay s c := by
  show (if 8 ≤ (sendS s).val then recvPay m (stepOf (sendS s)) c else sendPay (stepOf (sendS s)) c) = _
  rw [if_neg (send_lt s), stepOf_send]
theorem payload_recv (d : Fin 5) : (sched (F := F) m).payload (recvC s c) 0 d = recvPay m s c := by
  show (if 8 ≤ (recvS s).val then recvPay m (stepOf (recvS s)) c else sendPay (stepOf (recvS s)) c) = _
  rw [if_pos (recv_ge s), stepOf_recv]

omit [FloatOps F] in
/-- A family over the five steps, one by one. -/
theorem bigSep5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The rest of each cell's round, no duty taken. -/
theorem rest_bar : bigSep ((sched (F := F) m).duties (barC c) 0 \ ∅) (fun d => (sched (F := F) m).payload (barC c) 0 d)
    = bigSep Finset.univ fun s => barPay s c := by
  rw [Finset.sdiff_empty, duties_bar]; exact bigSep_congr fun d _ => payload_bar m c d
theorem rest_send : bigSep ((sched (F := F) m).duties (sendC s c) 0 \ ∅) (fun d => (sched (F := F) m).payload (sendC s c) 0 d) = sendPay s c := by
  rw [Finset.sdiff_empty, duties_send, bigSep_singleton, payload_send]
theorem rest_recv : bigSep ((sched (F := F) m).duties (recvC s c) 0 \ ∅) (fun d => (sched (F := F) m).payload (recvC s c) 0 d) = recvPay m s c := by
  rw [Finset.sdiff_empty, duties_recv, bigSep_singleton, payload_recv]

end Tables

/-! ## What a device owes; the levels -/

/-- The step paid `k` from the end. -/
abbrev fromEnd (k : ℕ) : Fin 5 := ⟨4 - k, by omega⟩

/-- The last `k` transfers' credits. -/
def owR (c : Dev nD) : ℕ → CellTallies nD τ sig Unit
  | 0 => 0
  | k + 1 => owR c k + tallyAt (recvC (fromEnd k) (partner (fromEnd k) c)) () (cr (fromEnd k))
/-- All five and the last `k` signals. -/
def owB (c : Dev nD) : ℕ → CellTallies nD τ sig Unit
  | 0 => owR c 5
  | k + 1 => owB c k + tallyAt (barC (partner (fromEnd k) c)) () 1

theorem tally_pos {O : CellTallies nD τ sig Unit} {g g' : GSem nD τ sig} {u : Unit} {n : ℕ}
    (h : 0 < (O + tallyAt g' () n) g u) : 0 < O g u ∨ g = g' := by
  rw [Pi.add_apply, Finsupp.add_apply, tallyAt_apply] at h
  by_cases hg : g = g'
  · exact .inr hg
  · rw [if_neg (fun h' => hg h'.1)] at h; exact .inl h

theorem owR_pos {c : Dev nD} {g : GSem nD τ sig} {u : Unit} : ∀ {k : ℕ}, k ≤ 5 → 0 < owR c k g u →
    ∃ s : Fin 5, 5 ≤ k + s.val ∧ g = recvC s (partner s c)
  | 0, _, h => absurd h (Nat.lt_irrefl 0)
  | k + 1, hk, h => by
    rcases tally_pos (show 0 < (owR c k + tallyAt (recvC (fromEnd k) (partner (fromEnd k) c)) () (cr (fromEnd k)) : CellTallies nD τ sig Unit) g u from h) with h | rfl
    · obtain ⟨s, hs, hg⟩ := owR_pos (by omega) h
      exact ⟨s, by omega, hg⟩
    · exact ⟨fromEnd k, by show 5 ≤ k + 1 + (4 - k); omega, rfl⟩

theorem owB_pos {c : Dev nD} {g : GSem nD τ sig} {u : Unit} : ∀ {k : ℕ}, 0 < owB c k g u →
    (∃ s : Fin 5, g = recvC s (partner s c)) ∨ ∃ s : Fin 5, g = barC (partner s c)
  | 0, h => by obtain ⟨s, _, hg⟩ := owR_pos le_rfl (show 0 < owR c 5 g u from h); exact .inl ⟨s, hg⟩
  | k + 1, h => by
    rcases tally_pos (show 0 < (owB c k + tallyAt (barC (partner (fromEnd k) c)) () 1 : CellTallies nD τ sig Unit) g u from h) with h | rfl
    · exact owB_pos h
    · exact .inr ⟨fromEnd k, rfl⟩

def L (g : GSem nD τ sig) : Finset Unit := if g.1.2 = .tc then {()} else ∅
/-- The barrier below the receive semaphores, these in the order of the steps, everything else at the bottom. -/
def lv (g : GSem nD τ sig) (_ : Unit) : ℕ := match g.2 with
  | .reg _ => 1
  | .dma q => if 8 ≤ q.val then q.val else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (s : Fin 5) (c : Dev nD) (u : Unit) : lv (recvC s c) u = 8 + s.val := if_pos (recv_ge s)

omit [FloatOps F] in
/-- A device may wait at a semaphore of level at most `n` while everything it owes is above `n`. -/
theorem mayWait_cut (c : Dev nD) (sm : SemLoc sig) (O : CellTallies nD τ sig Unit) (n : ℕ)
    (h : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show u ∈ L g; rw [L, if_pos (hO g u hg).1]; exact Finset.mem_singleton_self _)
    (fun p hp => by rw [Finset.mem_singleton.mp hp]; exact h)
    (fun g u hg => (hO g u hg).2)

omit [FloatOps F] in
theorem mayWait_bar (c : Dev nD) : (levAts L lv : sProp 𝕄) ⊢ MayWait (c : Thread nD τ) (.reg barS) () (owR c 5) :=
  mayWait_cut c _ _ 1 le_rfl fun g u hg => by
    obtain ⟨s, _, rfl⟩ := owR_pos le_rfl hg
    exact ⟨rfl, by rw [lv_recv]; omega⟩

omit [FloatOps F] in
theorem mayWait_send (s : Fin 5) (c : Dev nD) (k : ℕ) (hk : k ≤ 5) :
    (levAts L lv : sProp 𝕄) ⊢ MayWait (c : Thread nD τ) (.dma (sendS s)) () (owR c k) :=
  mayWait_cut c _ _ 0 (by dsimp only [lv]; rw [if_neg (send_lt s)]) fun g u hg => by
    obtain ⟨t, _, rfl⟩ := owR_pos hk hg
    exact ⟨rfl, by rw [lv_recv]; omega⟩

omit [FloatOps F] in
theorem mayWait_recv (s : Fin 5) (c : Dev nD) (k : ℕ) (hk : s.val + k = 4) :
    (levAts L lv : sProp 𝕄) ⊢ MayWait (c : Thread nD τ) (.dma (recvS s)) () (owR c k) :=
  mayWait_cut c _ _ (8 + s.val) (lv_recv s c ()).le fun g u hg => by
    obtain ⟨t, ht, rfl⟩ := owR_pos (by omega) hg
    exact ⟨rfl, by rw [lv_recv]; omega⟩

omit [FloatOps F] in
theorem mayWait_stage (c : Dev nD) (q : DmaSem sig) (hq : q.val < 8) (O : CellTallies nD τ sig Unit) (hO : O = owB c 5 ∨ O = 0) :
    (levAts L lv : sProp 𝕄) ⊢ MayWait (c : Thread nD τ) (.dma q) () O :=
  mayWait_cut c _ _ 0 (by dsimp only [lv]; rw [if_neg (by omega)]) fun g u hg => by
    rcases hO with rfl | rfl
    · rcases owB_pos hg with ⟨s, rfl⟩ | ⟨s, rfl⟩
      · exact ⟨rfl, by rw [lv_recv]; omega⟩
      · exact ⟨rfl, Nat.one_pos⟩
    · exact absurd hg (Nat.lt_irrefl 0)

/-! ## What a device starts from -/

/-- A device's cells: the barrier, the five send and the five receive semaphores. -/
abbrev csem (k : Fin 11) : SemLoc sig :=
  if k.val = 0 then .reg barS else .dma ⟨k.val + 2, by have := k.isLt; show k.val + 2 < 13; omega⟩
abbrev kcell (ck : Dev nD × Fin 11) : GSem nD τ sig := ((ck.1 : Thread nD τ), csem ck.2)
abbrev sI (s : Fin 5) : Fin 11 := ⟨1 + s.val, by omega⟩
abbrev rI (s : Fin 5) : Fin 11 := ⟨6 + s.val, by omega⟩
theorem csem_bar : csem 0 = .reg barS := rfl
theorem csem_send (s : Fin 5) : csem (sI s) = .dma (sendS s) := by revert s; decide
theorem csem_recv (s : Fin 5) : csem (rI s) = .dma (recvS s) := by revert s; decide

/-- Every cell's invariant, under the names `K`, and that every cell has reached its round. -/
def records (K : Dev nD × Fin 11 → ℕ) : sProp 𝕄 :=
  iprop((bigSep Finset.univ fun ck : Dev nD × Fin 11 => cellInv EX (sched m) (K ck) (kcell ck))
    ∗ bigSep Finset.univ fun ck : Dev nD × Fin 11 => reached EX (kcell ck) 0)

instance records_persistent (K : Dev nD × Fin 11 → ℕ) : BI.Persistent (records m K) := by unfold records; infer_instance

theorem rec_cell (K : Dev nD × Fin 11 → ℕ) (ck : Dev nD × Fin 11) (g : GSem nD τ sig) (h : kcell ck = g) :
    records m K ⊢ iprop(cellInv EX (sched m) (K ck) g ∗ reached EX g 0) := by
  subst h
  unfold records
  exact BI.sep_mono (bigSep_elim (Finset.mem_univ ck)) (bigSep_elim (Finset.mem_univ ck))

theorem rec_bar (K : Dev nD × Fin 11 → ℕ) (c : Dev nD) : records m K ⊢ iprop(cellInv EX (sched m) (K (c, 0)) (barC c) ∗ reached EX (barC c) 0) :=
  rec_cell m K (c, 0) _ rfl
theorem rec_send (K : Dev nD × Fin 11 → ℕ) (s : Fin 5) (c : Dev nD) :
    records m K ⊢ iprop(cellInv EX (sched m) (K (c, sI s)) (sendC s c) ∗ reached EX (sendC s c) 0) :=
  rec_cell m K (c, sI s) _ (by unfold kcell; rw [csem_send])
theorem rec_recv (K : Dev nD × Fin 11 → ℕ) (s : Fin 5) (c : Dev nD) :
    records m K ⊢ iprop(cellInv EX (sched m) (K (c, rI s)) (recvC s c) ∗ reached EX (recvC s c) 0) :=
  rec_cell m K (c, rI s) _ (by unfold kcell; rw [csem_recv])

/-- The tokens of the duties device `c` pays: its partners' barriers and receive cells, its own send cells. -/
def payToks (c : Dev nD) : sProp 𝕄 :=
  iprop((bigSep Finset.univ fun s : Fin 5 => dutyTok EX (barC (partner s c)) 0 s)
    ∗ (bigSep Finset.univ fun s : Fin 5 => dutyTok EX (sendC s c) 0 0)
    ∗ bigSep Finset.univ fun s : Fin 5 => dutyTok EX (recvC s (partner s c)) 0 0)
/-- Its positions at its own cells. -/
def places (c : Dev nD) : sProp 𝕄 :=
  iprop(atPos EX (barC c) 0 ∅ 0 ∗ (bigSep Finset.univ fun s : Fin 5 => atPos EX (sendC s c) 0 ∅ 0)
    ∗ bigSep Finset.univ fun s : Fin 5 => atPos EX (recvC s c) 0 ∅ 0)

def ghost (K : Dev nD × Fin 11 → ℕ) (c : Dev nD) : sProp 𝕄 := iprop(records m K ∗ places c ∗ payToks c)

/-- What device `c`'s body starts from: that at some names, its credit at its barrier and receive cells, the levels. -/
def start (c : Dev nD) : sProp 𝕄 :=
  iprop((∃ K, ghost m K c) ∗ cred (tallyAt (barC c) () 5)
    ∗ (bigSep Finset.univ fun s : Fin 5 => cred (tallyAt (recvC s c) () (cr s))) ∗ levAts L lv)

/-- The five scratch buffers, the last two region by region, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f)
    ∗ (bigSep Finset.univ fun s : Fin 5 => iprop(∃ f, sPts s c f)) ∗ bigSep Finset.univ fun s : Fin 5 => iprop(∃ f, rPts s c f))

/-- The eleven counters back at zero. -/
def zeros (c : Dev nD) : sProp 𝕄 :=
  iprop(semVal (barC c) 0 ∗ (bigSep Finset.univ fun s : Fin 5 => semVal (sendC s c) 0) ∗ bigSep Finset.univ fun s : Fin 5 => semVal (recvC s c) 0)

/-! ## The pipeline's proof data -/

def Φ₀ (c : Dev nD) : sProp 𝕄 := iprop(start m c ∗ scratch c)
def Φ₁ (c : Dev nD) : sProp 𝕄 := iprop(scratch c ∗ zeros c)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => xB m c
    | ⟨2, _⟩ => outV m c
  Φ t := match t with
    | ⟨0, _⟩ => Φ₀ m c
    | ⟨_ + 1, _⟩ => Φ₁ c
  q _ := fullShare
  owed t := match t with
    | ⟨0, _⟩ => owB c 5
    | ⟨_ + 1, _⟩ => 0

abbrev 𝒱₀ : Variants := Variants.none

end Cert.KernelIdeal.Cube

end
-- ==== Proof.Steps.lean ====
/-
# One step of the exchange

The regions of the send and receive buffers as sets of rows; and, for a step `s` of the exchange, what one signal, one
transfer, one wait, one read of a region and one store into a region do to what the device holds.
-/
module

public import proofs.«01_k».proof.Proof.Protocol

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Regions as sets of rows -/

theorem mem_rows {off size : Fin 2 → ℕ} {h : ∀ a, off a + size a ≤ S1488x1536.size a} {i : S1488x1536.Idx}
    (h1 : off 1 = 0) (h2 : size 1 = 1536) :
    i ∈ (Rect.unit (s := S1488x1536) off size h).set ↔ off 0 ≤ (i 0).val ∧ (i 0).val < off 0 + size 0 := by
  rw [Rect.mem_set_unit]
  refine ⟨fun H => H 0, fun H a => ?_⟩
  match a with
  | ⟨0, _⟩ => exact H
  | ⟨1, _⟩ => exact ⟨by show off 1 ≤ _; omega, by have := (i 1).isLt; show (i 1).val < off 1 + size 1; rw [h1, h2, Nat.zero_add]; exact this⟩

theorem mem_reg {s : Fin 5} {i : S1488x1536.Idx} : i ∈ (reg s).set ↔ top s ≤ (i 0).val ∧ (i 0).val < top s + tall s :=
  mem_rows rfl rfl

theorem rR_set (s : Fin 5) : (rR s).view.set = (reg s).set := View.set_slice_whole _ _
theorem sR_set (s : Fin 5) : (sR s).view.set = (reg s).set := View.set_slice_whole _ _

theorem apart (s t : Fin 5) (h : s ≠ t) : top s + tall s ≤ top t ∨ top t + tall t ≤ top s := by revert s t; decide
theorem reg_disjoint (s t : Fin 5) (h : s ≠ t) : Disjoint (reg s).set (reg t).set := by
  rw [Finset.disjoint_left]
  intro i hi hj
  rw [mem_reg] at hi hj
  have := apart s t h
  omega

theorem reg_cover : Finset.univ.biUnion (fun s : Fin 5 => (reg s).set) = Finset.univ := by
  rw [Finset.eq_univ_iff_forall]
  intro i
  have hi : (i 0).val < 1488 := (i 0).isLt
  have : ∃ s : Fin 5, top s ≤ (i 0).val ∧ (i 0).val < top s + tall s := by
    by_cases h0 : (i 0).val < 768
    · exact ⟨0, Nat.zero_le _, h0⟩
    by_cases h1 : (i 0).val < 1152
    · exact ⟨1, by show 768 ≤ _; omega, h1⟩
    by_cases h2 : (i 0).val < 1344
    · exact ⟨2, by show 1152 ≤ _; omega, h2⟩
    by_cases h3 : (i 0).val < 1440
    · exact ⟨3, by show 1344 ≤ _; omega, h3⟩
    · exact ⟨4, by show 1440 ≤ _; omega, hi⟩
  obtain ⟨s, hs⟩ := this
  exact Finset.mem_biUnion.mpr ⟨s, Finset.mem_univ _, mem_reg.mpr hs⟩

omit [FloatOps F] in
/-- The send buffer is its five regions; and held region by region at any contents it is held whole at some. -/
theorem sbuf_split (c : Dev nD) (f : (cc0_scratch3 : Ref sig .tc).ty.Contents (Elt F)) :
    ((((c : Thread nD τ).loc cc0_scratch3) ↦{fullShare} f : sProp 𝕄)) = bigSep Finset.univ fun s => sPts s c f := by
  refine (Ring.pointsTo_blocks (ℓ := (c : Thread nD τ).loc cc0_scratch3) (fun s : Fin 5 => (reg s).set) reg_disjoint reg_cover f).trans ?_
  exact bigSep_congr fun s _ => by unfold sPts; rw [sR_set]
omit [FloatOps F] in
theorem rbuf_split (c : Dev nD) (f : (cc0_scratch4 : Ref sig .tc).ty.Contents (Elt F)) :
    ((((c : Thread nD τ).loc cc0_scratch4) ↦{fullShare} f : sProp 𝕄)) = bigSep Finset.univ fun s => rPts s c f := by
  refine (Ring.pointsTo_blocks (ℓ := (c : Thread nD τ).loc cc0_scratch4) (fun s : Fin 5 => (reg s).set) reg_disjoint reg_cover f).trans ?_
  exact bigSep_congr fun s _ => by unfold rPts; rw [rR_set]
theorem sbuf_join (m : (ℓ : Loc nD τ sig) → Buf (Elt F) ℓ) (c : Dev nD) :
    (bigSep Finset.univ fun s : Fin 5 => iprop(∃ f, sPts (F := F) s c f)) ⊢ iprop(∃ f, ((c : Thread nD τ).loc cc0_scratch3) ↦{fullShare} f) := by
  refine (Entails.of_eq (bigSep_congr fun s _ => ?_)).trans
    (Ring.pointsTo_blocks_join_exists (ℓ := (c : Thread nD τ).loc cc0_scratch3) (fun s : Fin 5 => (reg s).set) reg_disjoint reg_cover (m ((c : Thread nD τ).loc cc0_scratch3)))
  unfold sPts; rw [sR_set]
theorem rbuf_join (m : (ℓ : Loc nD τ sig) → Buf (Elt F) ℓ) (c : Dev nD) :
    (bigSep Finset.univ fun s : Fin 5 => iprop(∃ f, rPts (F := F) s c f)) ⊢ iprop(∃ f, ((c : Thread nD τ).loc cc0_scratch4) ↦{fullShare} f) := by
  refine (Entails.of_eq (bigSep_congr fun s _ => ?_)).trans
    (Ring.pointsTo_blocks_join_exists (ℓ := (c : Thread nD τ).loc cc0_scratch4) (fun s : Fin 5 => (reg s).set) reg_disjoint reg_cover (m ((c : Thread nD τ).loc cc0_scratch4)))
  unfold rPts; rw [rR_set]

/-! ## Steps -/

variable (m : (ℓ : Loc nD τ sig) → Buf (Elt F) ℓ) (K : Dev nD × Fin 11 → ℕ)

/-- The weakest precondition on device `c`. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What a device owes, whatever it has waited for. -/
def owing (c : Dev nD) (O : CellTallies nD τ sig Unit) : sProp 𝕄 := iprop(∃ V, owes (c : Thread nD τ) O V)

section Steps
variable {α : Type} {Q : α → sProp (MT nD τ sig Unit (Elt F) ℕ UU ℕ)} {k : PUnit → Prog (TpuEff nD τ sig (Elt F) Λ₀ .tc) α}

/-- The signal to the partner of the `j`-th step from the end lends it that step's receive region. -/
theorem wp_sig (s : Fin 5) (c n : Dev nD) (j : ℕ) (hj : fromEnd j = s) (hn : n = partner s c) (b : Sem sig) (hb : b = barS) :
    iprop(records m K ∗ owing c (owB c (j + 1)) ∗ dutyTok EX (barC (partner s c)) 0 s ∗ ∃ f, rPts s c f)
      ⊢ iprop((owing c (owB c j) -∗ W c (k ⟨⟩) Q) -∗ W c (.op (.semSignal (n : Thread nD τ) b 1) k) Q) := by
  subst hn hb
  unfold owing
  iintro ⟨#Hr, ⟨%V, HO⟩, Ht, ⟨%f, Hf⟩⟩ Hk
  ihave Hc := (rec_bar m K (partner s c)) $$ Hr
  icases Hc with ⟨#HI, #Hm⟩
  iapply (Rounds.wp_signal 𝒱₀ EX (sched m) (c : Thread nD τ) none (dst := (partner s c : Thread nD τ))
      (κ := K (partner s c, 0)) (d := s) (by rw [duties_bar]; exact Finset.mem_univ _) (amount_bar m (partner s c) s) () (owB c j) (by subst hj; rfl))
    $$ [HO Ht Hf]
  · isplitr; · iexact HI
    isplitl [HO]; · iexact HO
    isplitl [Ht]; · iexact Ht
    isplitl [Hf]
    · rw [payload_bar]; unfold barPay; rw [partner_partner]; iexists f; iexact Hf
    · iexact Hm
  iintro HO
  iapply Hk; iexists V; iexact HO

/-- The wait for all five signals: every partner's region of the step is lent. -/
theorem wp_all (c : Dev nD) (b : Sem sig) (hb : b = barS) :
    iprop(records m K ∗ levAts L lv ∗ owing c (owR c 5) ∗ atPos EX (barC c) 0 ∅ 0 ∗ cred (tallyAt (barC c) () 5))
      ⊢ iprop(((owing c (owR c 5) ∗ atPos EX (barC c) 1 ∅ 0 ∗ bigSep Finset.univ fun s : Fin 5 => iprop(∃ f, rPts s (partner s c) f)) -∗ W c (k ⟨⟩) Q)
        -∗ W c (.op (.semWait b 5) k) Q) := by
  subst hb
  unfold owing
  iintro ⟨#Hr, #Hlev, ⟨%V, HO⟩, Hat, Hc⟩ Hk
  ihave Hi := (rec_bar m K c) $$ Hr
  icases Hi with ⟨#HI, #Hm⟩
  iapply (Rounds.wp_wait_rest_token 𝒱₀ EX (sched m) (c : Thread nD τ) none (κ := K (c, 0))
      (wpE_semWait_eq 𝒱₀ (c : Thread nD τ) none Set.univ) (Set.mem_univ _) () (O := owR c 5) (W := V) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hp⟩
  ihave Hp := (Entails.of_eq (rest_bar m c)) $$ Hp
  iapply Hk
  isplitl [HO]; · iexists _; iexact HO
  isplitl [Hat]; · iexact Hat
  unfold barPay; iexact Hp

/-- What lands in the partner's receive region is what the partner's contents there are to be. -/
theorem lands (s : Fin 5) (c : Dev nD) (fd : (cc0_scratch4 : Ref sig .tc).ty.Contents (Elt F)) (w : (shp s).Idx → Elt F .bf16) (hw : w = sent m s c) :
    ((rR s).view.loc (partner s c : Thread nD τ) ↦[(rR s).view.set]{fullShare} ((rR s).view.write (Elt F) fd w Finset.univ) : sProp 𝕄)
      ⊢ rPts s (partner s c) (landed m s (partner s c)) := by
  subst hw
  unfold rPts
  refine Entails.of_eq (pointsTo_congr fun i hi => ?_)
  obtain ⟨x, -, rfl⟩ := Finset.mem_map.mp hi
  rw [View.write_emb_of_mem _ _ (Finset.mem_univ x)]
  show sent m s c x = sent m s (partner s (partner s c)) (inReg s ((reg s).emb x))
  rw [partner_partner, inReg_emb]

/-- The transfer of the `j`-th step from the end. -/
theorem wp_snd (s : Fin 5) (c n : Dev nD) (j : ℕ) (hj : fromEnd j = s) (hn : n = partner s c) (q q' : DmaSem sig) (hq : q = sendS s) (hq' : q' = recvS s)
    {hsc : (rR s).view.ref.isScScratch = false} {hsrc : (sR s).view.WordExact} {hdst : (rR s).view.WordExact}
    {hsem : DmaTarget.Typed .vmem (.dma q') (.remote (n : Thread nD τ) (rR s) (.dma q) hsc)} :
    iprop(records m K ∗ owing c (owR c (j + 1)) ∗ (∃ f, ⌜(sR s).view.read (Elt F) f = sent m s c⌝ ∗ sPts s c f)
        ∗ (∃ f, rPts s (partner s c) f)
        ∗ dutyTok EX (sendC s c) 0 0 ∗ dutyTok EX (recvC s (partner s c)) 0 0)
      ⊢ iprop(((owing c (owR c j) ∗ cred (tallyAt (sendC s c) () (cr s))) -∗ W c (k ⟨⟩) Q)
        -∗ W c (.op (.enqueueDma (sR s) (.remote (n : Thread nD τ) (rR s) (.dma q) hsc) (.dma q') hsrc hdst hsem) k) Q) := by
  subst hn hq hq'
  unfold owing
  iintro ⟨#Hr, ⟨%V, HO⟩, ⟨%f, %hf, Hs⟩, ⟨%fd, Hd⟩, Ht, Ht'⟩ Hk
  ihave Hc := (rec_send m K s c) $$ Hr
  icases Hc with ⟨#HI, #Hm⟩
  ihave Hc := (rec_recv m K s (partner s c)) $$ Hr
  icases Hc with ⟨#HI', #Hm'⟩
  unfold sPts rPts
  iapply (Rounds.wp_send_pointsTo 𝒱₀ EX (sched m) (c : Thread nD τ) none (c' := (partner s c : Thread nD τ))
      (src := sR s) (dst := rR s) (fs := f) (fd := fd)
      (κ₁ := K (c, sI s)) (κ₂ := K (partner s c, rI s)) (r₁ := 0) (r₂ := 0) (d₁ := 0) (d₂ := 0)
      (by rw [duties_send]; exact Finset.mem_singleton_self _) (by rw [duties_recv]; exact Finset.mem_singleton_self _)
      () () (cr s) rfl (amount_send m s c 0) (amount_recv m s (partner s c) 0) (owR c j) (by subst hj; rfl) (W := V)
      (by rw [payload_send]; unfold sendPay sPts; iintro H; iexists f; iexact H)
      (by rw [payload_recv]; unfold recvPay; exact lands m s c fd _ hf)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hm
    isplitl [Ht']; · iexact Ht'
    iexact Hm'
  iintro ⟨Hc, HO⟩
  iapply Hk
  isplitl [HO]; · iexists _; iexact HO
  iexact Hc

/-- The wait for the device's own transfer of step `s`: its send region is back. -/
theorem wp_sent (s : Fin 5) (c : Dev nD) (j : ℕ) (hj : j ≤ 5) (q : DmaSem sig) (hq : q = sendS s)
    {src : Memref sig .tc .vmem (shp s) .bf16} {hsrc : src.view.WordExact} {hdst : (sR s).view.WordExact} :
    iprop(records m K ∗ levAts L lv ∗ owing c (owR c j) ∗ atPos EX (sendC s c) 0 ∅ 0 ∗ cred (tallyAt (sendC s c) () (cr s)))
      ⊢ iprop(((owing c (owR c j) ∗ atPos EX (sendC s c) 1 ∅ 0 ∗ ∃ f, sPts s c f) -∗ W c (k ⟨⟩) Q)
        -∗ W c (.op (.waitDma2 q src (sR s) hsrc hdst) k) Q) := by
  subst hq
  unfold owing
  iintro ⟨#Hr, #Hlev, ⟨%V, HO⟩, Hat, Hc⟩ Hk
  ihave Hi := (rec_send m K s c) $$ Hr
  icases Hi with ⟨#HI, #Hm⟩
  iapply (Rounds.wp_wait_rest_token 𝒱₀ EX (sched m) (c : Thread nD τ) none (κ := K (c, sI s))
      (wpE_waitDma2_eq 𝒱₀ (c : Thread nD τ) none Set.univ) (Set.mem_univ _) () (O := owR c j) (W := V) (R := 0) (m := 0) (T := ∅)
      (by rw [Nat.zero_add, expect_send])) $$ [Hc HO Hat]
  · isplitr; · iexact HI
    isplitl [Hc]; · iexact Hc
    isplitl [HO]; · iexact HO
    isplitr; · iapply (mayWait_send s c j hj); iexact Hlev
    iexact Hat
  iintro ⟨HO, Hat, -, Hp⟩
  ihave Hp := (Entails.of_eq (rest_send m s c)) $$ Hp
  iapply Hk
  isplitl [HO]; · iexists _; iexact HO
  isplitl [Hat]; · iexact Hat
  unfold sendPay; iexact Hp

/-- The wait for the partner's transfer of step `s`: the receive region holds what the partner sent. -/
theorem wp_rcvd (s : Fin 5) (c : Dev nD) (j : ℕ) (hj : s.val + j = 4) (q : DmaSem sig) (hq : q = recvS s)
    {src : Memref sig .tc .vmem (shp s) .bf16} {hsrc : src.view.WordExact} {hdst : (rR s).view.WordExact} :
    iprop(records m K ∗ levAts L lv ∗ owing c (owR c j) ∗ atPos EX (recvC s c) 0 ∅ 0 ∗ cred (tallyAt (recvC s c) () (cr s)))
      ⊢ iprop(((owing c (owR c j) ∗ atPos EX (recvC s c) 1 ∅ 0 ∗ rPts s c (landed m s c)) -∗ W c (k ⟨⟩) Q)
        -∗ W c (.op (.waitDma2 q src (rR s) hsrc hdst) k) Q) := by
  subst hq
  unfold owing
  iintro ⟨#Hr, #Hlev, ⟨%V, HO⟩, Hat, Hc⟩ Hk
  ihave Hi := (rec_recv m K s c) $$ Hr
  icases Hi with ⟨#HI, #Hm⟩
  iapply (Rounds.wp_wait_rest_token 𝒱₀ EX (sched m) (c : Thread nD τ) none (κ := K (c, rI s))
      (wpE_waitDma2_eq 𝒱₀ (c : Thread nD τ) none Set.univ) (Set.mem_univ _) () (O := owR c j) (W := V) (R := 0) (m := 0) (T := ∅)
      (by rw [Nat.zero_add, expect_recv])) $$ [Hc HO Hat]
  · isplitr; · iexact HI
    isplitl [Hc]; · iexact Hc
    isplitl [HO]; · iexact HO
    isplitr; · iapply (mayWait_recv s c j hj); iexact Hlev
    iexact Hat
  iintro ⟨HO, Hat, -, Hp⟩
  ihave Hp := (Entails.of_eq (rest_recv m s c)) $$ Hp
  iapply Hk
  isplitl [HO]; · iexists _; iexact HO
  isplitl [Hat]; · iexact Hat
  unfold recvPay; iexact Hp

/-- The store of what step `s` is to send into all of its send region. -/
theorem wp_put (s : Fin 5) (c : Dev nD) (w : (shp s).Idx → Elt F .bf16) (hw : w = sent m s c)
    {hx : (sM.access (reg s)).Stores Finset.univ} {hm : (Finset.univ : Finset (shp s).Idx) = Finset.univ ∨ ∀ a, (reg s).stride a = 1} :
    iprop(∃ f, sPts s c f)
      ⊢ iprop(((∃ f, ⌜(sR s).view.read (Elt F) f = sent m s c⌝ ∗ sPts s c f) -∗ W c (k ⟨⟩) Q)
        -∗ W c (.op (.store sM (reg s) w Finset.univ hx hm) k) Q) := by
  subst hw
  unfold sPts
  iintro ⟨%f, H⟩ Hk
  iapply (wp_store 𝒱₀ (c : Thread nD τ) none Set.univ (m := sM) (r := reg s) (Mk := Finset.univ) (S := (sR s).view.set) subset_rfl) $$ H
  iintro H
  iapply Hk
  iexists ((sM.access (reg s)).write (Elt F) f (sent m s c) Finset.univ)
  isplitr; · ipureintro; exact View.read_write_univ _ _
  iexact H

end Steps

section Loads
variable {α : Type} {Q : α → sProp (MT nD τ sig Unit (Elt F) ℕ UU ℕ)}

/-- A read of step `s`'s send region, at contents not known. -/
theorem wp_peek (s : Fin 5) (c : Dev nD) {hl : sM.view.LoadsAt (reg s).toLoadRect}
    {k : ((shp s).Idx → Elt F .bf16) → Prog (TpuEff nD τ sig (Elt F) Λ₀ .tc) α} :
    iprop(∃ f, sPts s c f)
      ⊢ iprop((∀ v, (∃ f, sPts s c f) -∗ W c (k v) Q) -∗ W c (.op (.load sM (reg s).toLoadRect hl) k) Q) := by
  unfold sPts
  iintro ⟨%f, H⟩ Hk
  iapply (wp_load_rect 𝒱₀ (c : Thread nD τ) none Set.univ (m := sM) (r := reg s) (S := (sR s).view.set) subset_rfl) $$ H
  iintro H
  iapply Hk; iexists f; iexact H

/-- A read of some rows of step `t`'s receive region. -/
theorem wp_got (t : Fin 5) (c : Dev nD) (f : (cc0_scratch4 : Ref sig .tc).ty.Contents (Elt F)) (off size : Fin 2 → ℕ)
    (h : ∀ a, off a + size a ≤ S1488x1536.size a) {hl : rM.view.LoadsAt (Rect.unit (s := S1488x1536) off size h).toLoadRect}
    {k : ((Rect.unit (s := S1488x1536) off size h).toLoadRect.shape.Idx → Elt F .bf16) → Prog (TpuEff nD τ sig (Elt F) Λ₀ .tc) α}
    (hb : (off 1 = 0 ∧ size 1 = 1536) ∧ top t ≤ off 0 ∧ off 0 + size 0 ≤ top t + tall t) :
    rPts t c f ⊢ iprop((rPts t c f -∗ W c (k (ldR f off size h)) Q)
      -∗ W c (.op (.load rM (Rect.unit (s := S1488x1536) off size h).toLoadRect hl) k) Q) := by
  unfold rPts
  refine wp_load_rect 𝒱₀ (c : Thread nD τ) none Set.univ (m := rM) (r := Rect.unit (s := S1488x1536) off size h) (S := (rR t).view.set) ?_
  rw [rR_set, show (rM.access (Rect.unit (s := S1488x1536) off size h)).set = (Rect.unit (s := S1488x1536) off size h).set from View.set_slice_whole _ _]
  intro i hi
  rw [mem_rows hb.1.1 hb.1.2] at hi
  rw [mem_reg]
  omega

end Loads

end Cert.KernelIdeal.Cube

end
-- ==== Proof.Copying.lean ====
/-
# The kernel's first pass: the left operand's chunks copied into slot order

A loop unit puts one chunk of 48 rows into its slot and reads the next chunk; the printed parts are stretches of that loop.
-/
module

public import proofs.«01_k».proof.Proof.Steps

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Slots -/

/-- The slot of chunk `j`. -/
def slotAt (j : ℕ) : ℕ := j % 2 * 16 + j / 8 % 2 * 8 + j / 2 % 2 * 4 + j / 4 % 2 * 2 + j / 16 % 2

theorem slotAt_lt (j : ℕ) : slotAt j < 32 := by unfold slotAt; omega
theorem chunkAt_slotAt (j : Fin 32) : chunkAt (slotAt j.val) = j.val := by revert j; decide
theorem slotAt_chunkAt (p : Fin 32) : slotAt (chunkAt p.val) = p.val := by revert p; decide

theorem rows_inb (p : ℕ) (h : p < 32) : ∀ a, (![p * 48, 0] : Fin 2 → ℕ) a + S48x768.size a ≤ S1536x768.size a := by
  intro a
  match a with
  | ⟨0, _⟩ => show p * 48 + 48 ≤ 1536; omega
  | ⟨1, _⟩ => exact le_rfl

/-- The `p`-th stretch of 48 rows of the operand, or of its permuted copy. -/
abbrev rows (p : ℕ) (h : p < 32) : Rect S1536x768 := Rect.unit (s := S1536x768) ![p * 48, 0] S48x768.size (rows_inb p h)

theorem rows_packed (p : Fin 32) : (rows p.val p.isLt).PackedRows (EltTy.packing .bf16) := by revert p; decide

theorem rows_stores (p : ℕ) (h : p < 32) : (pM.access (rows p h)).Stores Finset.univ :=
  View.stores_vmem h_S48x768 ((Memref.isWhole_whole cc0_scratch0).storeExact_slice rfl _ (rows_packed ⟨p, h⟩)) (fun _ => rfl)

/-! ## The loop -/

/-- Chunk `j`, read as `v`, put into its slot. -/
def put (j : ℕ) (v : FVec F S48x768 .bf16) : Prog (TpuEff nD τ sig (Elt F) Λ₀ .tc) PUnit :=
  .op (.load pM (rows (slotAt j) (slotAt_lt j)).toLoadRect (View.loadsAt_vmem h_S48x768)) fun _ =>
  .op (.store pM (rows (slotAt j) (slotAt_lt j)) (shapeCast S48x768 v shapeCasts_S48x768_S48x768) Finset.univ (rows_stores _ _) (.inl rfl)) .ret

/-- Chunk `j` read. -/
def take (j : ℕ) : Prog (TpuEff nD τ sig (Elt F) Λ₀ .tc) (FVec F S48x768 .bf16) :=
  .op (.load xM (rows (j % 32) (Nat.mod_lt _ (by decide))).toLoadRect (View.loadsAt_vmem h_S48x768)) fun v =>
  .ret (shapeCast S48x768 v shapeCasts_S48x768_S48x768)

/-- From chunk `j`, read as `v`, `n` times: the chunk put away, the next one read. -/
def copyFrom : ℕ → ℕ → FVec F S48x768 .bf16 → Prog (TpuEff nD τ sig (Elt F) Λ₀ .tc) (FVec F S48x768 .bf16)
  | 0, _, v => .ret v
  | n + 1, j, v => put j v >>= fun _ => take (j + 1) >>= copyFrom n (j + 1)

/-! ## What the loop does -/

variable (m : (ℓ : Loc nD τ sig) → Buf (Elt F) ℓ) (c : Dev nD)

/-- The staged left operand. -/
def xPt : sProp 𝕄 := ((c : Thread nD τ).loc cc0_stg0_0) ↦{fullShare} xA m c
/-- The permuted copy once chunks `0 … j - 1` are in their slots. -/
def copied (j : ℕ) : sProp 𝕄 :=
  iprop(∃ g : (cc0_scratch0 : Ref sig .tc).ty.Contents (Elt F), ⌜∀ i : S1536x768.Idx, chunkAt ((i 0).val / 48) < j → g i = permA m c i⌝
    ∗ (((c : Thread nD τ).loc cc0_scratch0) ↦{fullShare} g))
/-- Chunk `j` of the operand. -/
def chunkX (j : ℕ) : FVec F S48x768 .bf16 := xM.view.readAt (Elt F) (rows (j % 32) (Nat.mod_lt _ (by decide))).toLoadRect (xA m c)

omit [FloatOps F] in
theorem mem_rows48 {p : ℕ} {h : p < 32} {i : S1536x768.Idx} : i ∈ (rows p h).set ↔ (i 0).val / 48 = p := by
  rw [Rect.mem_set_unit]
  constructor
  · intro H
    have := H 0
    have h0 : p * 48 ≤ (i 0).val ∧ (i 0).val < p * 48 + 48 := this
    omega
  · intro H a
    match a with
    | ⟨0, _⟩ => show p * 48 ≤ (i 0).val ∧ (i 0).val < p * 48 + 48; omega
    | ⟨1, _⟩ => exact ⟨Nat.zero_le _, by have := (i 1).isLt; show (i 1).val < 0 + 768; rw [Nat.zero_add]; exact this⟩

omit [FloatOps F] in
theorem pM_access_set {p : ℕ} {h : p < 32} : (pM.access (rows p h)).set = (rows p h).set := View.set_slice_whole _ _

/-- Chunk `j` written into its slot is one more chunk of the permuted operand in place. -/
theorem put_chunk (j : ℕ) (hj : j < 32) (g : (cc0_scratch0 : Ref sig .tc).ty.Contents (Elt F))
    (hg : ∀ i : S1536x768.Idx, chunkAt ((i 0).val / 48) < j → g i = permA m c i) (i : S1536x768.Idx) (hi : chunkAt ((i 0).val / 48) < j + 1) :
    (pM.access (rows (slotAt j) (slotAt_lt j))).write (Elt F) g (chunkX m c j) Finset.univ i = permA m c i := by
  have hi0 : (i 0).val < 1536 := (i 0).isLt
  by_cases hm : i ∈ (pM.access (rows (slotAt j) (slotAt_lt j))).set
  · obtain ⟨x, -, rfl⟩ := Finset.mem_map.mp hm
    rw [View.write_emb_of_mem _ _ (Finset.mem_univ x)]
    show xA m c ((rows (j % 32) _).emb x) = xA m c (rowAt ((rows (slotAt j) _).emb x))
    congr 1
    have hx : (x 0).val < 48 := (x 0).isLt
    have hc := chunkAt_slotAt ⟨j, hj⟩
    dsimp only at hc
    funext a
    match a with
    | ⟨0, _⟩ =>
      apply Fin.ext
      show j % 32 * 48 + 1 * (x 0).val = chunkAt ((slotAt j * 48 + 1 * (x 0).val) / 48) * 48 + (slotAt j * 48 + 1 * (x 0).val) % 48
      rw [show (slotAt j * 48 + 1 * (x 0).val) / 48 = slotAt j by omega, hc]
      omega
    | ⟨1, _⟩ => rfl
  · rw [View.write_of_not_mem _ _ _ (by rwa [View.setOn_univ])]
    apply hg
    rw [pM_access_set, mem_rows48] at hm
    have hs := slotAt_chunkAt ⟨(i 0).val / 48, by omega⟩
    dsimp only at hs
    by_contra hlt
    exact hm (by rw [← hs]; congr 1; omega)

theorem wp_put_chunk (j : ℕ) (hj : j < 32) (v : FVec F S48x768 .bf16) (hv : v = chunkX m c j) {Q : PUnit → sProp (MT nD τ sig Unit (Elt F) ℕ UU ℕ)} :
    copied m c j ⊢ iprop((copied m c (j + 1) -∗ Q ⟨⟩) -∗ W c (put j v) Q) := by
  subst hv
  unfold put copied
  rw [shapeCast_self]
  iintro ⟨%g, %hg, H⟩ Hk
  iapply (wp_load 𝒱₀ (c : Thread nD τ) none Set.univ (m := pM) (Finset.subset_univ _)) $$ H
  iintro H
  iapply (wp_store 𝒱₀ (c : Thread nD τ) none Set.univ (m := pM) (r := rows (slotAt j) (slotAt_lt j)) (Mk := Finset.univ) (Finset.subset_univ _)) $$ H
  iintro H
  rw [wp_ret]; imodintro
  iapply Hk
  iexists _
  isplitr
  · ipureintro; exact put_chunk m c j hj g hg
  · iexact H

theorem wp_take (j : ℕ) {Q : FVec F S48x768 .bf16 → sProp (MT nD τ sig Unit (Elt F) ℕ UU ℕ)} :
    xPt m c ⊢ iprop((xPt m c -∗ Q (chunkX m c j)) -∗ W c (take j) Q) := by
  unfold take xPt chunkX
  iintro H Hk
  iapply (wp_load 𝒱₀ (c : Thread nD τ) none Set.univ (m := xM) (Finset.subset_univ _)) $$ H
  iintro H
  rw [wp_ret, shapeCast_self]; imodintro
  iapply Hk; iexact H

/-- `n` units of the loop put `n` chunks in place and end with the next chunk read. -/
theorem wp_copyFrom (n : ℕ) : ∀ (j : ℕ) (hj : j + n ≤ 32) {Q : FVec F S48x768 .bf16 → sProp (MT nD τ sig Unit (Elt F) ℕ UU ℕ)},
    iprop(xPt m c ∗ copied m c j) ⊢ iprop(((xPt m c ∗ copied m c (j + n)) -∗ Q (chunkX m c (j + n))) -∗ W c (copyFrom n j (chunkX m c j)) Q) := by
  induction n with
  | zero =>
    intro j hj Q
    unfold copyFrom W
    iintro H Hk
    rw [wp_ret]; imodintro
    iapply Hk; iexact H
  | succ n ih =>
    intro j hj Q
    unfold copyFrom
    unfold W
    rw [wp_bind]
    iintro ⟨Hx, Hp⟩ Hk
    iapply (wp_put_chunk m c j (by omega) _ rfl) $$ Hp
    iintro Hp
    rw [wp_bind]
    iapply (wp_take m c (j + 1)) $$ Hx
    iintro Hx
    iapply (ih (j + 1) (by omega)) $$ [Hx Hp]
    · isplitl [Hx] <;> iassumption
    rw [show j + 1 + n = j + (n + 1) by omega]
    iexact Hk

/-- All chunks in place. -/
theorem copied_all : copied m c 32 ⊢ (((c : Thread nD τ).loc cc0_scratch0) ↦{fullShare} permA m c) := by
  unfold copied
  iintro ⟨%g, %hg, H⟩
  have : g = permA m c := funext fun i => hg i (chunkAt_lt _)
  subst this
  iexact H

/-- Nothing in place yet. -/
theorem copied_none (g : (cc0_scratch0 : Ref sig .tc).ty.Contents (Elt F)) :
    (((c : Thread nD τ).loc cc0_scratch0) ↦{fullShare} g) ⊢ copied m c 0 := by
  unfold copied
  iintro H
  iexists g
  isplitr
  · ipureintro; exact fun i h => absurd h (Nat.not_lt_zero _)
  · iexact H

/-! ## The parts are stretches of the loop -/

section Parts
variable (v : FVec F S48x768 .bf16)

theorem part3_eq : k0_part3 (F := F) xM (Memref.isWhole_whole _) bM (Memref.isWhole_whole _) oM (Memref.isWhole_whole _) pM (Memref.isWhole_whole _)
    kM (Memref.isWhole_whole _) aM (Memref.isWhole_whole _) sM (Memref.isWhole_whole _) rM (Memref.isWhole_whole _) cc0_scratch5 cc0_scratch6 v = copyFrom 6 2 v := by
  rw [k0_part3_eq_skeleton]; rfl
theorem part4_eq : k0_part4 (F := F) xM (Memref.isWhole_whole _) bM (Memref.isWhole_whole _) oM (Memref.isWhole_whole _) pM (Memref.isWhole_whole _)
    kM (Memref.isWhole_whole _) aM (Memref.isWhole_whole _) sM (Memref.isWhole_whole _) rM (Memref.isWhole_whole _) cc0_scratch5 cc0_scratch6 v = copyFrom 6 8 v := by
  rw [k0_part4_eq_skeleton]; rfl
theorem part5_eq : k0_part5 (F := F) xM (Memref.isWhole_whole _) bM (Memref.isWhole_whole _) oM (Memref.isWhole_whole _) pM (Memref.isWhole_whole _)
    kM (Memref.isWhole_whole _) aM (Memref.isWhole_whole _) sM (Memref.isWhole_whole _) rM (Memref.isWhole_whole _) cc0_scratch5 cc0_scratch6 v = copyFrom 6 14 v := by
  rw [k0_part5_eq_skeleton]; rfl
theorem part6_eq : k0_part6 (F := F) xM (Memref.isWhole_whole _) bM (Memref.isWhole_whole _) oM (Memref.isWhole_whole _) pM (Memref.isWhole_whole _)
    kM (Memref.isWhole_whole _) aM (Memref.isWhole_whole _) sM (Memref.isWhole_whole _) rM (Memref.isWhole_whole _) cc0_scratch5 cc0_scratch6 v = copyFrom 6 20 v := by
  rw [k0_part6_eq_skeleton]; rfl
/-- The last stretch ends with the last chunk put away. -/
theorem part7_eq (w : BitVec 32) : ∃ w', k0_part7 (F := F) xM (Memref.isWhole_whole _) bM (Memref.isWhole_whole _) oM (Memref.isWhole_whole _) pM (Memref.isWhole_whole _)
    kM (Memref.isWhole_whole _) aM (Memref.isWhole_whole _) sM (Memref.isWhole_whole _) rM (Memref.isWhole_whole _) cc0_scratch5 cc0_scratch6 w v
    = copyFrom 5 26 v >>= fun v => put 31 v >>= fun _ => .ret w' := ⟨_, by
  rw [k0_part7_eq_skeleton]; rfl⟩
end Parts

end Cert.KernelIdeal.Cube

end
-- ==== Proof.Body.lean ====
/-
# The kernel's body, part by part

What each printed part does to what the device holds; and the body, the parts one after the other.
-/
module

public import proofs.«01_k».proof.Proof.Copying

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ) (c : Dev nD)

/-- What stays at hand throughout: the cells' invariants and the levels. -/
def known : sProp 𝕄 := iprop(records m K ∗ levAts L lv)
instance known_persistent : BI.Persistent (known m K) := by unfold known; infer_instance

/-- The staged right operand, its copy, the permuted left operand, the kept product. -/
def bPt : sProp 𝕄 := ((c : Thread nD τ).loc cc0_stg1_0) ↦{fullShare} xB m c
def kPt : sProp 𝕄 := ((c : Thread nD τ).loc cc0_scratch1) ↦{fullShare} copyB m c
def pPt : sProp 𝕄 := ((c : Thread nD τ).loc cc0_scratch0) ↦{fullShare} permA m c
def aPt : sProp 𝕄 := ((c : Thread nD τ).loc cc0_scratch2) ↦{fullShare} accA m c

theorem hz : (![0, 0] : Fin 2 → Nat) = fun _ => 0 := funext fun a => by fin_cases a <;> rfl

omit [FloatOps F] in
theorem read_k (f : (cc0_scratch1 : Ref sig .tc).ty.Contents (Elt F)) :
    kM.view.readAt (Elt F) (Rect.unit (s := S768x1536) ![0, 0] S768x1536.size inb_S768x1536_S768x1536_0_0).toLoadRect f = f :=
  Memref.readAt_unit_zero (Elt F) cc0_scratch1 hz _ f
omit [FloatOps F] in
theorem read_b (f : (cc0_stg1_0 : Ref sig .tc).ty.Contents (Elt F)) :
    bM.view.readAt (Elt F) (Rect.unit (s := S768x1536) ![0, 0] S768x1536.size inb_S768x1536_S768x1536_0_0).toLoadRect f = f :=
  Memref.readAt_unit_zero (Elt F) cc0_stg1_0 hz _ f
omit [FloatOps F] in
theorem write_k (f w : (cc0_scratch1 : Ref sig .tc).ty.Contents (Elt F)) :
    (kM.access (Rect.unit (s := S768x1536) ![0, 0] S768x1536.size inb_S768x1536_S768x1536_0_0)).write (Elt F) f w Finset.univ = w :=
  Memref.write_access_unit_zero_univ (Elt F) cc0_scratch1 hz _ f w
omit [FloatOps F] in
theorem write_a (f w : (cc0_scratch2 : Ref sig .tc).ty.Contents (Elt F)) :
    (aM.access (Rect.unit (s := S768x1536) ![0, 0] S768x1536.size inb_S768x1536_S768x1536_0_0)).write (Elt F) f w Finset.univ = w :=
  Memref.write_access_unit_zero_univ (Elt F) cc0_scratch2 hz _ f w
omit [FloatOps F] in
theorem write_o (f w : (cc0_stg2_0 : Ref sig .tc).ty.Contents (Elt F)) (h) :
    (oM.access (Rect.unit (s := S48x1536) ![0, 0] S48x1536.size h)).write (Elt F) f w Finset.univ = w :=
  Memref.write_access_unit_zero_univ (Elt F) cc0_stg2_0 hz h f w

/-! ## Where the rows read of the receive buffer lie -/

theorem off4_in (c : Dev nD) : (k0_off4 c 1 = 0 ∧ S384x1536.size 1 = 1536) ∧ top 0 ≤ k0_off4 c 0 ∧ k0_off4 c 0 + S384x1536.size 0 ≤ top 0 + tall 0 := by
  revert c; decide +kernel
theorem off6_in (c : Dev nD) : (k0_off6 c 1 = 0 ∧ S192x1536.size 1 = 1536) ∧ top 0 ≤ k0_off6 c 0 ∧ k0_off6 c 0 + S192x1536.size 0 ≤ top 0 + tall 0 := by
  revert c; decide +kernel
theorem off7_in (c : Dev nD) : (k0_off7 c 1 = 0 ∧ S192x1536.size 1 = 1536) ∧ top 1 ≤ k0_off7 c 0 ∧ k0_off7 c 0 + S192x1536.size 0 ≤ top 1 + tall 1 := by
  revert c; decide +kernel
theorem off9_in (c : Dev nD) : (k0_off9 c 1 = 0 ∧ S96x1536.size 1 = 1536) ∧ top 0 ≤ k0_off9 c 0 ∧ k0_off9 c 0 + S96x1536.size 0 ≤ top 0 + tall 0 := by
  revert c; decide +kernel
theorem off10_in (c : Dev nD) : (k0_off10 c 1 = 0 ∧ S96x1536.size 1 = 1536) ∧ top 1 ≤ k0_off10 c 0 ∧ k0_off10 c 0 + S96x1536.size 0 ≤ top 1 + tall 1 := by
  revert c; decide +kernel
theorem off11_in (c : Dev nD) : (k0_off11 c 1 = 0 ∧ S96x1536.size 1 = 1536) ∧ top 2 ≤ k0_off11 c 0 ∧ k0_off11 c 0 + S96x1536.size 0 ≤ top 2 + tall 2 := by
  revert c; decide +kernel
theorem off13_in (c : Dev nD) : (k0_off13 c 1 = 0 ∧ S48x1536.size 1 = 1536) ∧ top 0 ≤ k0_off13 c 0 ∧ k0_off13 c 0 + S48x1536.size 0 ≤ top 0 + tall 0 := by
  revert c; decide +kernel
theorem off14_in (c : Dev nD) : (k0_off14 c 1 = 0 ∧ S48x1536.size 1 = 1536) ∧ top 1 ≤ k0_off14 c 0 ∧ k0_off14 c 0 + S48x1536.size 0 ≤ top 1 + tall 1 := by
  revert c; decide +kernel
theorem off15_in (c : Dev nD) : (k0_off15 c 1 = 0 ∧ S48x1536.size 1 = 1536) ∧ top 2 ≤ k0_off15 c 0 ∧ k0_off15 c 0 + S48x1536.size 0 ≤ top 2 + tall 2 := by
  revert c; decide +kernel
theorem off16_in (c : Dev nD) : (k0_off16 c 1 = 0 ∧ S48x1536.size 1 = 1536) ∧ top 3 ≤ k0_off16 c 0 ∧ k0_off16 c 0 + S48x1536.size 0 ≤ top 3 + tall 3 := by
  revert c; decide +kernel
theorem off18_in (c : Dev nD) : (k0_off18 c 1 = 0 ∧ S48x1536.size 1 = 1536) ∧ top 0 ≤ k0_off18 c 0 ∧ k0_off18 c 0 + S48x1536.size 0 ≤ top 0 + tall 0 := by
  revert c; decide +kernel
theorem off19_in (c : Dev nD) : (k0_off19 c 1 = 0 ∧ S48x1536.size 1 = 1536) ∧ top 1 ≤ k0_off19 c 0 ∧ k0_off19 c 0 + S48x1536.size 0 ≤ top 1 + tall 1 := by
  revert c; decide +kernel
theorem off20_in (c : Dev nD) : (k0_off20 c 1 = 0 ∧ S48x1536.size 1 = 1536) ∧ top 2 ≤ k0_off20 c 0 ∧ k0_off20 c 0 + S48x1536.size 0 ≤ top 2 + tall 2 := by
  revert c; decide +kernel
theorem off21_in (c : Dev nD) : (k0_off21 c 1 = 0 ∧ S48x1536.size 1 = 1536) ∧ top 3 ≤ k0_off21 c 0 ∧ k0_off21 c 0 + S48x1536.size 0 ≤ top 3 + tall 3 := by
  revert c; decide +kernel
theorem off22_in (c : Dev nD) : (k0_off22 c 1 = 0 ∧ S48x1536.size 1 = 1536) ∧ top 4 ≤ k0_off22 c 0 ∧ k0_off22 c 0 + S48x1536.size 0 ≤ top 4 + tall 4 := by
  revert c; decide +kernel

/-! ## The parts -/

section Parts
variable {α : Type}

theorem part1_ok {Q : (Σ' (d0 : Dev nD) (v22 : BitVec 32) (v23 : BitVec 32) (v24 : BitVec 32) (v25 : BitVec 32) (v26 : BitVec 32) (v27 : BitVec 32), Sems sig S_) → sProp (MT nD τ sig Unit (Elt F) ℕ UU ℕ)} :
    iprop(known m K ∗ owing c (owB c 5) ∗ dutyTok EX (barC (partner 0 c)) 0 0 ∗ ∃ f, rPts 0 c f)
      ⊢ iprop((∀ w₁ w₂ w₃ w₄ w₅ w₆, owing c (owB c 4) -∗ Q ⟨c, w₁, w₂, w₃, w₄, w₅, w₆, SemArray.scalar (sig.barrier 0 rfl)⟩)
        -∗ W c (k0_part1 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6) Q) := by
  rw [k0_part1_eq_skeleton]; unfold k0_part1_skel known
  simp only [semSignalWord, Prog.lift, Prog.bind_op, Prog.bind_ret, Prog.pure_eq_ret, W, wp_deviceId]
  iintro ⟨⟨#Hr, #Hl⟩, HO, Ht, Hf⟩ Hk
  iapply (wp_sig m K 0 c _ 4 rfl (dev1_eq c) _ rfl) $$ [HO Ht Hf]
  · isplitr; · iexact Hr
    isplitl [HO]; · iexact HO
    isplitl [Ht]; · iexact Ht
    iexact Hf
  iintro HO
  unfold W
  rw [wp_ret]; imodintro
  iapply Hk; iexact HO

/-- The four further signals, the wait for the five of the partners, the copy of the right operand. -/
def opening (d : Dev nD) : Prog (TpuEff nD τ sig (Elt F) Λ₀ .tc) PUnit := do
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semSignalWord (⟨k0_dev5 d, k0_dev5_lt d⟩ : Dev nD) barS 1#32
  semWaitWord barS 5#32
  let v : Vec F S768x1536 .bf16 ← Prog.lift (.load bM (Rect.unit (s := S768x1536) ![0, 0] S768x1536.size inb_S768x1536_S768x1536_0_0).toLoadRect (View.loadsAt_vmem h_S768x1536))
  let _ : Vec F S768x1536 .bf16 ← Prog.lift (.load kM (Rect.unit (s := S768x1536) ![0, 0] S768x1536.size inb_S768x1536_S768x1536_0_0).toLoadRect (View.loadsAt_vmem h_S768x1536))
  Prog.lift (.store kM (Rect.unit (s := S768x1536) ![0, 0] S768x1536.size inb_S768x1536_S768x1536_0_0) (k0_pay2 v) Finset.univ
    (View.stores_vmem h_S768x1536 ((Memref.isWhole_whole cc0_scratch1).storeExact_slice rfl _ packedbf16_S768x1536_S768x1536_0_0) (fun _ => rfl)) (.inl rfl))

/-- The second part is that and the copying of the first two chunks. -/
theorem part2_eq (w₁ w₂ w₃ w₄ : BitVec 32) : k0_part2 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ w₃ w₄ (SemArray.scalar (sig.barrier 0 rfl))
    = opening c >>= fun _ => take 0 >>= copyFrom 2 0 := by
  rw [k0_part2_eq_skeleton]; rfl

/-- What the opening does: all five partners are told and heard, each lending a region. -/
theorem opening_ok {Q : PUnit → sProp (MT nD τ sig Unit (Elt F) ℕ UU ℕ)} :
    iprop(known m K ∗ owing c (owB c 4) ∗ (dutyTok EX (barC (partner 1 c)) 0 1 ∗ dutyTok EX (barC (partner 2 c)) 0 2 ∗ dutyTok EX (barC (partner 3 c)) 0 3 ∗ dutyTok EX (barC (partner 4 c)) 0 4)
        ∗ ((∃ f, rPts 1 c f) ∗ (∃ f, rPts 2 c f) ∗ (∃ f, rPts 3 c f) ∗ (∃ f, rPts 4 c f))
        ∗ atPos EX (barC c) 0 ∅ 0 ∗ cred (tallyAt (barC c) () 5) ∗ bPt m c ∗ (∃ f, ((c : Thread nD τ).loc cc0_scratch1) ↦{fullShare} f))
      ⊢ iprop(((owing c (owR c 5) ∗ atPos EX (barC c) 1 ∅ 0 ∗ (bigSep Finset.univ fun s : Fin 5 => iprop(∃ f, rPts s (partner s c) f)) ∗ bPt m c ∗ kPt m c) -∗ Q ⟨⟩)
        -∗ W c (opening (F := F) c) Q) := by
  unfold opening known bPt kPt copyB
  simp only [semSignalWord, semWaitWord, Prog.lift, Prog.bind_op, Prog.bind_ret, Prog.pure_eq_ret]
  iintro ⟨⟨#Hr, #Hl⟩, HO, ⟨Ht1, Ht2, Ht3, Ht4⟩, ⟨Hf1, Hf2, Hf3, Hf4⟩, Hat, Hc, Hb, ⟨%f, Hk'⟩⟩ Hk
  iapply (wp_sig m K 1 c _ 3 rfl (dev2_eq c) _ rfl) $$ [HO Ht1 Hf1]
  · isplitr; · iexact Hr
    isplitl [HO]; · iexact HO
    isplitl [Ht1]; · iexact Ht1
    iexact Hf1
  iintro HO
  iapply (wp_sig m K 2 c _ 2 rfl (dev3_eq c) _ rfl) $$ [HO Ht2 Hf2]
  · isplitr; · iexact Hr
    isplitl [HO]; · iexact HO
    isplitl [Ht2]; · iexact Ht2
    iexact Hf2
  iintro HO
  iapply (wp_sig m K 3 c _ 1 rfl (dev4_eq c) _ rfl) $$ [HO Ht3 Hf3]
  · isplitr; · iexact Hr
    isplitl [HO]; · iexact HO
    isplitl [Ht3]; · iexact Ht3
    iexact Hf3
  iintro HO
  iapply (wp_sig m K 4 c _ 0 rfl (dev5_eq c) _ rfl) $$ [HO Ht4 Hf4]
  · isplitr; · iexact Hr
    isplitl [HO]; · iexact HO
    isplitl [Ht4]; · iexact Ht4
    iexact Hf4
  iintro HO
  iapply (wp_all m K c _ rfl) $$ [HO Hat Hc]
  · isplitr; · iexact Hr
    isplitr; · iexact Hl
    isplitl [HO]; · iexact HO
    isplitl [Hat]; · iexact Hat
    iexact Hc
  iintro ⟨HO, Hat, Hd⟩
  iapply (wp_load 𝒱₀ (c : Thread nD τ) none Set.univ (m := bM) (Finset.subset_univ _)) $$ Hb; iintro Hb; rw [read_b]
  iapply (wp_load 𝒱₀ (c : Thread nD τ) none Set.univ (m := kM) (Finset.subset_univ _)) $$ Hk'; iintro Hk'
  iapply (wp_store 𝒱₀ (c : Thread nD τ) none Set.univ (m := kM) (r := Rect.unit (s := S768x1536) ![0, 0] S768x1536.size inb_S768x1536_S768x1536_0_0)
      (Mk := Finset.univ) (Finset.subset_univ _)) $$ Hk'; iintro Hk'; rw [write_k]
  rw [wp_ret]; imodintro
  iapply Hk
  isplitl [HO]; · iexact HO
  isplitl [Hat]; · iexact Hat
  isplitl [Hd]; · iexact Hd
  isplitl [Hb]; · iexact Hb
  iexact Hk'
theorem part8_ok (w₁ w₂ : BitVec 32) {Q : BitVec 32 → sProp (MT nD τ sig Unit (Elt F) ℕ UU ℕ)} :
    iprop(known m K ∗ owing c (owR c 5) ∗ pPt m c ∗ kPt m c ∗ (∃ f, ((c : Thread nD τ).loc cc0_scratch2) ↦{fullShare} f) ∗ (∃ f, sPts 0 c f) ∗ (∃ f, rPts 0 (partner 0 c) f)
        ∗ dutyTok EX (sendC 0 c) 0 0 ∗ dutyTok EX (recvC 0 (partner 0 c)) 0 0)
      ⊢ iprop((∀ w, (owing c (owR c 4) ∗ cred (tallyAt (sendC 0 c) () (cr 0)) ∗ pPt m c ∗ kPt m c ∗ aPt m c) -∗ Q w)
        -∗ W c (k0_part8 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂) Q) := by
  rw [k0_part8_eq_skeleton]; unfold k0_part8_skel known pPt kPt aPt
  simp only [Prog.lift, Prog.bind_op, Prog.bind_ret, Prog.pure_eq_ret]
  iintro ⟨⟨#Hr, #Hl⟩, HO, Hp, Hb, ⟨%a, Ha⟩, Hs, Hd, Ht, Ht'⟩ Hk
  iapply (wp_load 𝒱₀ (c : Thread nD τ) none Set.univ (m := pM) (Finset.subset_univ _)) $$ Hp; iintro Hp
  iapply (wp_load 𝒱₀ (c : Thread nD τ) none Set.univ (m := kM) (Finset.subset_univ _)) $$ Hb; iintro Hb; rw [read_k]
  iapply (wp_peek 0 c) $$ Hs; iintro %v Hs
  iapply (wp_put m 0 c _ rfl) $$ Hs; iintro Hs
  iapply (wp_snd m K 0 c _ 4 rfl (dev6_eq c) _ _ rfl rfl) $$ [HO Hs Hd Ht Ht']
  · isplitr; · iexact Hr
    isplitl [HO]; · iexact HO
    isplitl [Hs]; · iexact Hs
    isplitl [Hd]; · iexact Hd
    isplitl [Ht]; · iexact Ht
    iexact Ht'
  iintro ⟨HO, Hc⟩
  iapply (wp_load 𝒱₀ (c : Thread nD τ) none Set.univ (m := pM) (Finset.subset_univ _)) $$ Hp; iintro Hp
  iapply (wp_load 𝒱₀ (c : Thread nD τ) none Set.univ (m := kM) (Finset.subset_univ _)) $$ Hb; iintro Hb; rw [read_k]
  iapply (wp_load 𝒱₀ (c : Thread nD τ) none Set.univ (m := aM) (Finset.subset_univ _)) $$ Ha; iintro Ha
  iapply (wp_store 𝒱₀ (c : Thread nD τ) none Set.univ (m := aM) (r := Rect.unit (s := S768x1536) ![0, 0] S768x1536.size inb_S768x1536_S768x1536_0_0)
      (Mk := Finset.univ) (Finset.subset_univ _)) $$ Ha; iintro Ha; rw [write_a]
  rw [wp_ret]; imodintro
  iapply Hk
  isplitl [HO]; · iexact HO
  isplitl [Hc]; · iexact Hc
  isplitl [Hp]; · iexact Hp
  isplitl [Hb]; · iexact Hb
  iexact Ha

/-- The waits of the first step, and what the second step is to send. -/
theorem part9_ok (w₁ w₂ w₃ : BitVec 32) {Q : (Σ' (v252 : BitVec 32), FVec F S384x1536 .bf16) → sProp (MT nD τ sig Unit (Elt F) ℕ UU ℕ)} :
    iprop(known m K ∗ owing c (owR c 4) ∗ (atPos EX (sendC 0 c) 0 ∅ 0 ∗ cred (tallyAt (sendC 0 c) () (cr 0)) ∗ atPos EX (recvC 0 c) 0 ∅ 0 ∗ cred (tallyAt (recvC 0 c) () (cr 0))) ∗ aPt m c ∗ (∃ f, sPts 1 c f))
      ⊢ iprop((∀ w, (owing c (owR c 4) ∗ atPos EX (sendC 0 c) 1 ∅ 0 ∗ (∃ f, sPts 0 c f) ∗ atPos EX (recvC 0 c) 1 ∅ 0 ∗ rPts 0 c (landed m 0 c) ∗ aPt m c ∗ (∃ f, sPts 1 c f)) -∗ Q ⟨w, k0_pay42 (aM.view.readAt (Elt F) (Rect.unit (s := S768x1536) (k0_off3 c) S384x1536.size (k0_off3_inb c)).toLoadRect (accA m c)) (ldR (landed m 0 c) (k0_off4 c) S384x1536.size (k0_off4_inb c))⟩)
        -∗ W c (k0_part9 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ w₃) Q) := by
  rw [k0_part9_eq_skeleton]; unfold k0_part9_skel known aPt
  simp only [Prog.lift, Prog.bind_op, Prog.bind_ret, Prog.pure_eq_ret]
  iintro ⟨⟨#Hr, #Hl⟩, HO, ⟨HatS, Hc, HatR, Hcr⟩, Ha, Hs'⟩ Hk
  iapply (wp_sent m K 0 c 4 (by decide) _ rfl) $$ [HO HatS Hc]
  · isplitr; · iexact Hr
    isplitr; · iexact Hl
    isplitl [HO]; · iexact HO
    isplitl [HatS]; · iexact HatS
    iexact Hc
  iintro ⟨HO, HatS, Hs⟩
  iapply (wp_rcvd m K 0 c 4 (by decide) _ rfl) $$ [HO HatR Hcr]
  · isplitr; · iexact Hr
    isplitr; · iexact Hl
    isplitl [HO]; · iexact HO
    isplitl [HatR]; · iexact HatR
    iexact Hcr
  iintro ⟨HO, HatR, Hg⟩
  iapply (wp_load 𝒱₀ (c : Thread nD τ) none Set.univ (m := aM) (Finset.subset_univ _)) $$ Ha; iintro Ha
  iapply (wp_got 0 c _ _ _ _ (off4_in c)) $$ Hg; iintro Hg
  iapply (wp_peek 1 c) $$ Hs'; iintro %v Hs'
  unfold W
  rw [wp_ret]; imodintro
  iapply Hk
  isplitl [HO]; · iexact HO
  isplitl [HatS]; · iexact HatS
  isplitl [Hs]; · iexact Hs
  isplitl [HatR]; · iexact HatR
  isplitl [Hg]; · iexact Hg
  isplitl [Ha]; · iexact Ha
  iexact Hs'
/-- The second step. -/
theorem part10_ok (w₁ w₂ w₃ w₄ : BitVec 32) (v : FVec F S384x1536 .bf16)
    (hv : k0_pay43 v = sent1 m c) {Q : (Σ' (v290 : BitVec 32) (v292 : BitVec 32) (v293 : BitVec 32), BitVec 32) → sProp (MT nD τ sig Unit (Elt F) ℕ UU ℕ)} :
    iprop(known m K ∗ owing c (owR c 4) ∗ (∃ f, sPts 1 c f) ∗ (∃ f, rPts 1 (partner 1 c) f) ∗ dutyTok EX (sendC 1 c) 0 0 ∗ dutyTok EX (recvC 1 (partner 1 c)) 0 0 ∗ atPos EX (sendC 1 c) 0 ∅ 0 ∗ atPos EX (recvC 1 c) 0 ∅ 0 ∗ cred (tallyAt (recvC 1 c) () (cr 1)))
      ⊢ iprop((∀ w, (owing c (owR c 3) ∗ atPos EX (sendC 1 c) 1 ∅ 0 ∗ (∃ f, sPts 1 c f) ∗ atPos EX (recvC 1 c) 1 ∅ 0 ∗ rPts 1 c (landed m 1 c)) -∗ Q w)
        -∗ W c (k0_part10 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ w₃ w₄ v) Q) := by
  rw [k0_part10_eq_skeleton]; unfold k0_part10_skel known
  simp only [Prog.lift, Prog.bind_op, Prog.bind_ret, Prog.pure_eq_ret]
  iintro ⟨⟨#Hr, #Hl⟩, HO, Hs, Hd, Ht, Ht', HatS, HatR, Hcr⟩ Hk
  iapply (wp_put m 1 c _ hv) $$ Hs; iintro Hs
  iapply (wp_snd m K 1 c _ 3 rfl (dev7_eq c) _ _ rfl rfl) $$ [HO Hs Hd Ht Ht']
  · isplitr; · iexact Hr
    isplitl [HO]; · iexact HO
    isplitl [Hs]; · iexact Hs
    isplitl [Hd]; · iexact Hd
    isplitl [Ht]; · iexact Ht
    iexact Ht'
  iintro ⟨HO, Hc⟩
  iapply (wp_sent m K 1 c 3 (by decide) _ rfl) $$ [HO HatS Hc]
  · isplitr; · iexact Hr
    isplitr; · iexact Hl
    isplitl [HO]; · iexact HO
    isplitl [HatS]; · iexact HatS
    iexact Hc
  iintro ⟨HO, HatS, Hs⟩
  iapply (wp_rcvd m K 1 c 3 (by decide) _ rfl) $$ [HO HatR Hcr]
  · isplitr; · iexact Hr
    isplitr; · iexact Hl
    isplitl [HO]; · iexact HO
    isplitl [HatR]; · iexact HatR
    iexact Hcr
  iintro ⟨HO, HatR, Hg⟩
  unfold W
  rw [wp_ret]; imodintro
  iapply Hk
  isplitl [HO]; · iexact HO
  isplitl [HatS]; · iexact HatS
  isplitl [Hs]; · iexact Hs
  isplitl [HatR]; · iexact HatR
  iexact Hg
/-- The third step's transfer. -/
theorem part11_ok (w₁ w₂ w₃ w₄ w₅ w₆ : BitVec 32) {Q : PUnit → sProp (MT nD τ sig Unit (Elt F) ℕ UU ℕ)} :
    iprop(known m K ∗ owing c (owR c 3) ∗ aPt m c ∗ rPts 0 c (landed m 0 c) ∗ rPts 1 c (landed m 1 c) ∗ (∃ f, sPts 2 c f) ∗ (∃ f, rPts 2 (partner 2 c) f) ∗ dutyTok EX (sendC 2 c) 0 0 ∗ dutyTok EX (recvC 2 (partner 2 c)) 0 0 ∗ atPos EX (sendC 2 c) 0 ∅ 0)
      ⊢ iprop(((owing c (owR c 2) ∗ aPt m c ∗ rPts 0 c (landed m 0 c) ∗ rPts 1 c (landed m 1 c) ∗ atPos EX (sendC 2 c) 1 ∅ 0 ∗ (∃ f, sPts 2 c f)) -∗ Q ⟨⟩)
        -∗ W c (k0_part11 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ w₃ w₄ w₅ w₆) Q) := by
  rw [k0_part11_eq_skeleton]; unfold k0_part11_skel known aPt
  simp only [Prog.lift, Prog.bind_op, Prog.bind_ret, Prog.pure_eq_ret]
  iintro ⟨⟨#Hr, #Hl⟩, HO, Ha, Hg0, Hg1, Hs, Hd, Ht, Ht', HatS⟩ Hk
  iapply (wp_load 𝒱₀ (c : Thread nD τ) none Set.univ (m := aM) (Finset.subset_univ _)) $$ Ha; iintro Ha
  iapply (wp_got 0 c _ _ _ _ (off6_in c)) $$ Hg0; iintro Hg0
  iapply (wp_got 1 c _ _ _ _ (off7_in c)) $$ Hg1; iintro Hg1
  iapply (wp_peek 2 c) $$ Hs; iintro %v Hs
  iapply (wp_put m 2 c _ rfl) $$ Hs; iintro Hs
  iapply (wp_snd m K 2 c _ 2 rfl (dev8_eq c) _ _ rfl rfl) $$ [HO Hs Hd Ht Ht']
  · isplitr; · iexact Hr
    isplitl [HO]; · iexact HO
    isplitl [Hs]; · iexact Hs
    isplitl [Hd]; · iexact Hd
    isplitl [Ht]; · iexact Ht
    iexact Ht'
  iintro ⟨HO, Hc⟩
  iapply (wp_sent m K 2 c 2 (by decide) _ rfl) $$ [HO HatS Hc]
  · isplitr; · iexact Hr
    isplitr; · iexact Hl
    isplitl [HO]; · iexact HO
    isplitl [HatS]; · iexact HatS
    iexact Hc
  iintro ⟨HO, HatS, Hs⟩
  unfold W
  rw [wp_ret]; imodintro
  iapply Hk
  isplitl [HO]; · iexact HO
  isplitl [Ha]; · iexact Ha
  isplitl [Hg0]; · iexact Hg0
  isplitl [Hg1]; · iexact Hg1
  isplitl [HatS]; · iexact HatS
  iexact Hs
/-- The third step's receipt, and what the fourth step is to send. -/
theorem part12_ok (w₁ w₂ w₃ w₄ w₅ : BitVec 32) {Q : (Σ' (v339 : BitVec 32), FVec F S96x1536 .f32) → sProp (MT nD τ sig Unit (Elt F) ℕ UU ℕ)} :
    iprop(known m K ∗ owing c (owR c 2) ∗ aPt m c ∗ rPts 0 c (landed m 0 c) ∗ rPts 1 c (landed m 1 c) ∗ atPos EX (recvC 2 c) 0 ∅ 0 ∗ cred (tallyAt (recvC 2 c) () (cr 2)))
      ⊢ iprop((∀ w, (owing c (owR c 2) ∗ aPt m c ∗ rPts 0 c (landed m 0 c) ∗ rPts 1 c (landed m 1 c) ∗ atPos EX (recvC 2 c) 1 ∅ 0 ∗ rPts 2 c (landed m 2 c)) -∗ Q ⟨w, k0_pay45 (aM.view.readAt (Elt F) (Rect.unit (s := S768x1536) (k0_off8 c) S96x1536.size (k0_off8_inb c)).toLoadRect (accA m c)) (ldR (landed m 0 c) (k0_off9 c) S96x1536.size (k0_off9_inb c)) (ldR (landed m 1 c) (k0_off10 c) S96x1536.size (k0_off10_inb c))⟩)
        -∗ W c (k0_part12 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ w₃ w₄ w₅) Q) := by
  rw [k0_part12_eq_skeleton]; unfold k0_part12_skel known aPt
  simp only [Prog.lift, Prog.bind_op, Prog.bind_ret, Prog.pure_eq_ret]
  iintro ⟨⟨#Hr, #Hl⟩, HO, Ha, Hg0, Hg1, HatR, Hcr⟩ Hk
  iapply (wp_rcvd m K 2 c 2 (by decide) _ rfl) $$ [HO HatR Hcr]
  · isplitr; · iexact Hr
    isplitr; · iexact Hl
    isplitl [HO]; · iexact HO
    isplitl [HatR]; · iexact HatR
    iexact Hcr
  iintro ⟨HO, HatR, Hg⟩
  iapply (wp_load 𝒱₀ (c : Thread nD τ) none Set.univ (m := aM) (Finset.subset_univ _)) $$ Ha; iintro Ha
  iapply (wp_got 0 c _ _ _ _ (off9_in c)) $$ Hg0; iintro Hg0
  iapply (wp_got 1 c _ _ _ _ (off10_in c)) $$ Hg1; iintro Hg1
  unfold W
  rw [wp_ret]; imodintro
  iapply Hk
  isplitl [HO]; · iexact HO
  isplitl [Ha]; · iexact Ha
  isplitl [Hg0]; · iexact Hg0
  isplitl [Hg1]; · iexact Hg1
  isplitl [HatR]; · iexact HatR
  iexact Hg
/-- The fourth step. -/
theorem part13_ok (w₁ w₂ : BitVec 32) (v : FVec F S96x1536 .f32)
    (hv : k0_pay46 v (ldR (landed m 2 c) (k0_off11 c) S96x1536.size (k0_off11_inb c)) = sent3 m c) {Q : (Σ' (v388 : BitVec 32), BitVec 32) → sProp (MT nD τ sig Unit (Elt F) ℕ UU ℕ)} :
    iprop(known m K ∗ owing c (owR c 2) ∗ rPts 2 c (landed m 2 c) ∗ (∃ f, sPts 3 c f) ∗ (∃ f, rPts 3 (partner 3 c) f) ∗ dutyTok EX (sendC 3 c) 0 0 ∗ dutyTok EX (recvC 3 (partner 3 c)) 0 0 ∗ atPos EX (sendC 3 c) 0 ∅ 0 ∗ atPos EX (recvC 3 c) 0 ∅ 0 ∗ cred (tallyAt (recvC 3 c) () (cr 3)))
      ⊢ iprop((∀ w, (owing c (owR c 1) ∗ rPts 2 c (landed m 2 c) ∗ atPos EX (sendC 3 c) 1 ∅ 0 ∗ (∃ f, sPts 3 c f) ∗ atPos EX (recvC 3 c) 1 ∅ 0 ∗ rPts 3 c (landed m 3 c)) -∗ Q w)
        -∗ W c (k0_part13 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ v) Q) := by
  rw [k0_part13_eq_skeleton]; unfold k0_part13_skel known
  simp only [Prog.lift, Prog.bind_op, Prog.bind_ret, Prog.pure_eq_ret]
  iintro ⟨⟨#Hr, #Hl⟩, HO, Hg2, Hs, Hd, Ht, Ht', HatS, HatR, Hcr⟩ Hk
  iapply (wp_got 2 c _ _ _ _ (off11_in c)) $$ Hg2; iintro Hg2
  iapply (wp_peek 3 c) $$ Hs; iintro %v Hs
  iapply (wp_put m 3 c _ hv) $$ Hs; iintro Hs
  iapply (wp_snd m K 3 c _ 1 rfl (dev9_eq c) _ _ rfl rfl) $$ [HO Hs Hd Ht Ht']
  · isplitr; · iexact Hr
    isplitl [HO]; · iexact HO
    isplitl [Hs]; · iexact Hs
    isplitl [Hd]; · iexact Hd
    isplitl [Ht]; · iexact Ht
    iexact Ht'
  iintro ⟨HO, Hc⟩
  iapply (wp_sent m K 3 c 1 (by decide) _ rfl) $$ [HO HatS Hc]
  · isplitr; · iexact Hr
    isplitr; · iexact Hl
    isplitl [HO]; · iexact HO
    isplitl [HatS]; · iexact HatS
    iexact Hc
  iintro ⟨HO, HatS, Hs⟩
  iapply (wp_rcvd m K 3 c 1 (by decide) _ rfl) $$ [HO HatR Hcr]
  · isplitr; · iexact Hr
    isplitr; · iexact Hl
    isplitl [HO]; · iexact HO
    isplitl [HatR]; · iexact HatR
    iexact Hcr
  iintro ⟨HO, HatR, Hg⟩
  unfold W
  rw [wp_ret]; imodintro
  iapply Hk
  isplitl [HO]; · iexact HO
  isplitl [Hg2]; · iexact Hg2
  isplitl [HatS]; · iexact HatS
  isplitl [Hs]; · iexact Hs
  isplitl [HatR]; · iexact HatR
  iexact Hg
/-- What the fifth step is to send, in its region. -/
theorem part14_ok (w₁ w₂ w₃ w₄ w₅ w₆ : BitVec 32) {Q : BitVec 32 → sProp (MT nD τ sig Unit (Elt F) ℕ UU ℕ)} :
    iprop(known m K ∗ aPt m c ∗ rPts 0 c (landed m 0 c) ∗ rPts 1 c (landed m 1 c) ∗ rPts 2 c (landed m 2 c) ∗ rPts 3 c (landed m 3 c) ∗ (∃ f, sPts 4 c f))
      ⊢ iprop((∀ w, (aPt m c ∗ rPts 0 c (landed m 0 c) ∗ rPts 1 c (landed m 1 c) ∗ rPts 2 c (landed m 2 c) ∗ rPts 3 c (landed m 3 c) ∗ ∃ f, ⌜(sR 4).view.read (Elt F) f = sent m 4 c⌝ ∗ sPts 4 c f) -∗ Q w)
        -∗ W c (k0_part14 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ w₃ w₄ w₅ w₆) Q) := by
  rw [k0_part14_eq_skeleton]; unfold k0_part14_skel known aPt
  simp only [Prog.lift, Prog.bind_op, Prog.bind_ret, Prog.pure_eq_ret]
  iintro ⟨⟨#Hr, #Hl⟩, Ha, Hg0, Hg1, Hg2, Hg3, Hs⟩ Hk
  iapply (wp_load 𝒱₀ (c : Thread nD τ) none Set.univ (m := aM) (Finset.subset_univ _)) $$ Ha; iintro Ha
  iapply (wp_got 0 c _ _ _ _ (off13_in c)) $$ Hg0; iintro Hg0
  iapply (wp_got 1 c _ _ _ _ (off14_in c)) $$ Hg1; iintro Hg1
  iapply (wp_got 2 c _ _ _ _ (off15_in c)) $$ Hg2; iintro Hg2
  iapply (wp_got 3 c _ _ _ _ (off16_in c)) $$ Hg3; iintro Hg3
  iapply (wp_peek 4 c) $$ Hs; iintro %v Hs
  iapply (wp_put m 4 c _ rfl) $$ Hs; iintro Hs
  unfold W
  rw [wp_ret]; imodintro
  iapply Hk
  isplitl [Ha]; · iexact Ha
  isplitl [Hg0]; · iexact Hg0
  isplitl [Hg1]; · iexact Hg1
  isplitl [Hg2]; · iexact Hg2
  isplitl [Hg3]; · iexact Hg3
  iexact Hs
/-- The fifth step, and the first two terms of the result. -/
theorem part15_ok (w₁ w₂ w₃ w₄ : BitVec 32) {Q : (Σ' (v458 : FVec F S48x1536 .f32), BitVec 32) → sProp (MT nD τ sig Unit (Elt F) ℕ UU ℕ)} :
    iprop(known m K ∗ owing c (owR c 1) ∗ aPt m c ∗ rPts 0 c (landed m 0 c) ∗ (∃ f, ⌜(sR 4).view.read (Elt F) f = sent m 4 c⌝ ∗ sPts 4 c f) ∗ (∃ f, rPts 4 (partner 4 c) f) ∗ dutyTok EX (sendC 4 c) 0 0 ∗ dutyTok EX (recvC 4 (partner 4 c)) 0 0 ∗ atPos EX (sendC 4 c) 0 ∅ 0 ∗ atPos EX (recvC 4 c) 0 ∅ 0 ∗ cred (tallyAt (recvC 4 c) () (cr 4)))
      ⊢ iprop((∀ w, (owing c (owR c 0) ∗ aPt m c ∗ rPts 0 c (landed m 0 c) ∗ atPos EX (sendC 4 c) 1 ∅ 0 ∗ (∃ f, sPts 4 c f) ∗ atPos EX (recvC 4 c) 1 ∅ 0 ∗ rPts 4 c (landed m 4 c)) -∗ Q ⟨k0_pay48 (aM.view.readAt (Elt F) (Rect.unit (s := S768x1536) (k0_off17 c) S48x1536.size (k0_off17_inb c)).toLoadRect (accA m c)) (ldR (landed m 0 c) (k0_off18 c) S48x1536.size (k0_off18_inb c)), w⟩)
        -∗ W c (k0_part15 (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6 c w₁ w₂ w₃ w₄) Q) := by
  rw [k0_part15_eq_skeleton]; unfold k0_part15_skel known aPt
  simp only [Prog.lift, Prog.bind_op, Prog.bind_ret, Prog.pure_eq_ret]
  iintro ⟨⟨#Hr, #Hl⟩, HO, Ha, Hg0, Hs, Hd, Ht, Ht', HatS, HatR, Hcr⟩ Hk
  iapply (wp_snd m K 4 c _ 0 rfl (dev10_eq c) _ _ rfl rfl) $$ [HO Hs Hd Ht Ht']
  · isplitr; · iexact Hr
    isplitl [HO]; · iexact HO
    isplitl [Hs]; · iexact Hs
    isplitl [Hd]; · iexact Hd
    isplitl [Ht]; · iexact Ht
    iexact Ht'
  iintro ⟨HO, Hc⟩
  iapply (wp_sent m K 4 c 0 (by decide) _ rfl) $$ [HO HatS Hc]
  · isplitr; · iexact Hr
    isplitr; · iexact Hl
    isplitl [HO]; · iexact HO
    isplitl [HatS]; · iexact HatS
    iexact Hc
  iintro ⟨HO, HatS, Hs⟩
  iapply (wp_rcvd m K 4 c 0 (by decide) _ rfl) $$ [HO HatR Hcr]
  · isplitr; · iexact Hr
    isplitr; · iexact Hl
    isplitl [HO]; · iexact HO
    isplitl [HatR]; · iexact HatR
    iexact Hcr
  iintro ⟨HO, HatR, Hg⟩
  iapply (wp_load 𝒱₀ (c : Thread nD τ) none Set.univ (m := aM) (Finset.subset_univ _)) $$ Ha; iintro Ha
  iapply (wp_got 0 c _ _ _ _ (off18_in c)) $$ Hg0; iintro Hg0
  unfold W
  rw [wp_ret]; imodintro
  iapply Hk
  isplitl [HO]; · iexact HO
  isplitl [Ha]; · iexact Ha
  isplitl [Hg0]; · iexact Hg0
  isplitl [HatS]; · iexact HatS
  isplitl [Hs]; · iexact Hs
  isplitl [HatR]; · iexact HatR
  iexact Hg

end Parts

end Cert.KernelIdeal.Cube

end
-- ==== Proof.Sound.lean ====
/-
# The kernel's body

The parts one after the other, from what a device starts with to what the pipeline is to find.
-/
module

public import proofs.«01_k».proof.Proof.Body

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 11 → ℕ) (c : Dev nD)

section Tail

/-- The last four terms loaded, the sum put into the output's staging buffer. -/
def closing (d : Dev nD) (v : FVec F S48x1536 .f32) : Prog (TpuEff nD τ sig (Elt F) Λ₀ .tc) PUnit := do
  let v₁ : Vec F S48x1536 .bf16 ← Prog.lift (.load rM (Rect.unit (s := S1488x1536) (k0_off19 d) S48x1536.size (k0_off19_inb d)).toLoadRect (View.loadsAt_vmem h_S48x1536))
  let v₂ : Vec F S48x1536 .bf16 ← Prog.lift (.load rM (Rect.unit (s := S1488x1536) (k0_off20 d) S48x1536.size (k0_off20_inb d)).toLoadRect (View.loadsAt_vmem h_S48x1536))
  let v₃ : Vec F S48x1536 .bf16 ← Prog.lift (.load rM (Rect.unit (s := S1488x1536) (k0_off21 d) S48x1536.size (k0_off21_inb d)).toLoadRect (View.loadsAt_vmem h_S48x1536))
  let v₄ : Vec F S48x1536 .bf16 ← Prog.lift (.load rM (Rect.unit (s := S1488x1536) (k0_off22 d) S48x1536.size (k0_off22_inb d)).toLoadRect (View.loadsAt_vmem h_S48x1536))
  let _ : Vec F S48x1536 .f32 ← Prog.lift (.load oM (Rect.unit (s := S48x1536) ![0, 0] S48x1536.size inb_S48x1536_S48x1536_0_0).toLoadRect (View.loadsAt_vmem h_S48x1536))
  Prog.lift (.store oM (Rect.unit (s := S48x1536) ![0, 0] S48x1536.size inb_S48x1536_S48x1536_0_0) (k0_pay1 v v₁ v₂ v₃ v₄) Finset.univ (View.stores_vmem_bits_univ h_S48x1536 rfl) (.inl rfl))

/-- The closing leaves the result in the output's staging buffer. -/
theorem closing_ok (v : FVec F S48x1536 .f32)
    (hv : k0_pay1 v (ldR (landed m 1 c) (k0_off19 c) S48x1536.size (k0_off19_inb c)) (ldR (landed m 2 c) (k0_off20 c) S48x1536.size (k0_off20_inb c))
      (ldR (landed m 3 c) (k0_off21 c) S48x1536.size (k0_off21_inb c)) (ldR (landed m 4 c) (k0_off22 c) S48x1536.size (k0_off22_inb c)) = outV m c)
    {Q : PUnit → sProp (MT nD τ sig Unit (Elt F) ℕ UU ℕ)} :
    iprop(rPts 1 c (landed m 1 c) ∗ rPts 2 c (landed m 2 c) ∗ rPts 3 c (landed m 3 c) ∗ rPts 4 c (landed m 4 c)
        ∗ ∃ f, ((c : Thread nD τ).loc cc0_stg2_0) ↦{fullShare} f)
      ⊢ iprop(((rPts 1 c (landed m 1 c) ∗ rPts 2 c (landed m 2 c) ∗ rPts 3 c (landed m 3 c) ∗ rPts 4 c (landed m 4 c)
          ∗ (((c : Thread nD τ).loc cc0_stg2_0) ↦{fullShare} outV m c)) -∗ Q ⟨⟩) -∗ W c (closing (F := F) c v) Q) := by
  unfold closing
  simp only [Prog.lift, Prog.bind_op, Prog.bind_ret, Prog.pure_eq_ret]
  iintro ⟨Hg1, Hg2, Hg3, Hg4, ⟨%f, Ho⟩⟩ Hk
  iapply (wp_got 1 c _ _ _ _ (off19_in c)) $$ Hg1; iintro Hg1
  iapply (wp_got 2 c _ _ _ _ (off20_in c)) $$ Hg2; iintro Hg2
  iapply (wp_got 3 c _ _ _ _ (off21_in c)) $$ Hg3; iintro Hg3
  iapply (wp_got 4 c _ _ _ _ (off22_in c)) $$ Hg4; iintro Hg4
  rw [hv]
  iapply (wp_load 𝒱₀ (c : Thread nD τ) none Set.univ (m := oM) (Finset.subset_univ _)) $$ Ho; iintro Ho
  iapply (wp_store 𝒱₀ (c : Thread nD τ) none Set.univ (m := oM) (r := Rect.unit (s := S48x1536) ![0, 0] S48x1536.size inb_S48x1536_S48x1536_0_0)
      (Mk := Finset.univ) (Finset.subset_univ _)) $$ Ho; iintro Ho
  rw [write_o, wp_ret]; imodintro
  iapply Hk
  isplitl [Hg1]; · iexact Hg1
  isplitl [Hg2]; · iexact Hg2
  isplitl [Hg3]; · iexact Hg3
  isplitl [Hg4]; · iexact Hg4
  iexact Ho

end Tail

/-- Every cell is past its last round: its counter, at zero, is the device's again. -/
theorem close_all : iprop(known m K ∗ atPos EX (barC c) 1 ∅ 0 ∗ (bigSep Finset.univ fun s : Fin 5 => atPos EX (sendC s c) 1 ∅ 0)
      ∗ bigSep Finset.univ fun s : Fin 5 => atPos EX (recvC s c) 1 ∅ 0)
    ⊢ |={Set.univ}=> zeros c := by
  have one (g : GSem nD τ sig) (κ : ℕ) (R : sProp (MT nD τ sig Unit (Elt F) ℕ UU ℕ)) (h : R ⊢ cellInv EX (sched m) κ g) :
      iprop(R ∗ atPos EX g 1 ∅ 0) ⊢ |={Set.univ}=> (semVal g 0 : sProp (MT nD τ sig Unit (Elt F) ℕ UU ℕ)) :=
    (BI.sep_mono h (BI.Entails.refl _)).trans
      (Rounds.cell_close EX (sched m) (Set.mem_univ κ) (fun h => h) (R := 0 + 1) (duties_later m g))
  have inv {A B : sProp (MT nD τ sig Unit (Elt F) ℕ UU ℕ)} : iprop(A ∗ B) ⊢ A := by iintro ⟨H, -⟩; iexact H
  have all (P Q : Fin 5 → sProp (MT nD τ sig Unit (Elt F) ℕ UU ℕ)) (h : ∀ s, iprop(records m K ∗ P s) ⊢ |={Set.univ}=> Q s) :
      iprop(records m K ∗ bigSep Finset.univ P) ⊢ |={Set.univ}=> bigSep Finset.univ Q := by
    have := (bigSep_mono (s := Finset.univ) fun s _ => h s).trans (bigSep_fupd Finset.univ Q)
    rw [bigSep_sep'] at this
    exact (sep_mono_left (BI.bigSep_of_persistent _ _)).trans this
  unfold known zeros
  iintro ⟨⟨#Hr, -⟩, Hat, HS, HR⟩
  imod (one _ _ _ ((rec_bar m K c).trans inv)) $$ [Hat] with Hz
  · isplitr; · iexact Hr
    iexact Hat
  imod (all _ _ fun s => one _ _ _ ((rec_send m K s c).trans inv)) $$ [HS] with HS
  · isplitr; · iexact Hr
    iexact HS
  imod (all _ _ fun s => one _ _ _ ((rec_recv m K s c).trans inv)) $$ [HR] with HR
  · isplitr; · iexact Hr
    iexact HR
  imodintro
  isplitl [Hz]; · iexact Hz
  isplitl [HS]; · iexact HS
  iexact HR

set_option maxHeartbeats 4000000 in
/-- The whole body: from the start with the operands staged, to the result staged, nothing owed and the counters at zero. -/
theorem sound_body {Q : PUnit → sProp (MT nD τ sig Unit (Elt F) ℕ UU ℕ)} :
    iprop(known m K ∗ places c ∗ payToks c ∗ cred (tallyAt (barC c) () 5)
        ∗ (bigSep Finset.univ fun s : Fin 5 => cred (tallyAt (recvC s c) () (cr s))) ∗ scratch c
        ∗ owing c (owB c 5) ∗ xPt m c ∗ bPt m c ∗ (∃ f, ((c : Thread nD τ).loc cc0_stg2_0) ↦{fullShare} f))
      ⊢ iprop(((scratch c ∗ zeros c ∗ owing c 0 ∗ xPt m c ∗ bPt m c ∗ (((c : Thread nD τ).loc cc0_stg2_0) ↦{fullShare} outV m c)) -∗ Q ⟨⟩)
        -∗ W c (cc0_body (F := F) xM (Memref.isWhole_whole _) bM (Memref.isWhole_whole _) oM (Memref.isWhole_whole _) pM (Memref.isWhole_whole _)
          kM (Memref.isWhole_whole _) aM (Memref.isWhole_whole _) sM (Memref.isWhole_whole _) rM (Memref.isWhole_whole _) cc0_scratch5 cc0_scratch6) Q) := by
  rw [cc0_body_eq_skeleton]; unfold cc0_body_skel places payToks scratch W
  iintro ⟨#Hn, ⟨Hat, HSs, HRs⟩, ⟨Hbs, Hds, Hts⟩, Hcb, Hcs, ⟨⟨%gp, HP⟩, HK, HA, Hss, Hfs⟩, HO, HX, HB, Hout⟩ Hk
  ihave HSs := (Entails.of_eq (bigSep5 _)) $$ HSs; icases HSs with ⟨HS0, HS1, HS2, HS3, HS4⟩
  ihave HRs := (Entails.of_eq (bigSep5 _)) $$ HRs; icases HRs with ⟨HR0, HR1, HR2, HR3, HR4⟩
  ihave Hbs := (Entails.of_eq (bigSep5 _)) $$ Hbs; icases Hbs with ⟨Hb0, Hb1, Hb2, Hb3, Hb4⟩
  ihave Hds := (Entails.of_eq (bigSep5 _)) $$ Hds; icases Hds with ⟨Hd0, Hd1, Hd2, Hd3, Hd4⟩
  ihave Hts := (Entails.of_eq (bigSep5 _)) $$ Hts; icases Hts with ⟨Ht0, Ht1, Ht2, Ht3, Ht4⟩
  ihave Hcs := (Entails.of_eq (bigSep5 _)) $$ Hcs; icases Hcs with ⟨Hc0, Hc1, Hc2, Hc3, Hc4⟩
  ihave Hss := (Entails.of_eq (bigSep5 _)) $$ Hss; icases Hss with ⟨Hs0, Hs1, Hs2, Hs3, Hs4⟩
  ihave Hfs := (Entails.of_eq (bigSep5 _)) $$ Hfs; icases Hfs with ⟨Hf0, Hf1, Hf2, Hf3, Hf4⟩
  rw [wp_bind]
  iapply (part1_ok m K c) $$ [HO Hb0 Hf0]
  · isplitr; · iexact Hn
    isplitl [HO]; · iexact HO
    isplitl [Hb0]; · iexact Hb0
    iexact Hf0
  iintro %w₁ %w₂ %w₃ %w₄ %w₅ %w₆ HO
  dsimp only
  rw [part2_eq, wp_bind, wp_bind]
  iapply (opening_ok m K c) $$ [HO Hb1 Hb2 Hb3 Hb4 Hf1 Hf2 Hf3 Hf4 Hat Hcb HB HK]
  · isplitr; · iexact Hn
    isplitl [HO]; · iexact HO
    isplitl [Hb1 Hb2 Hb3 Hb4]
    · isplitl [Hb1]; · iexact Hb1
      isplitl [Hb2]; · iexact Hb2
      isplitl [Hb3]; · iexact Hb3
      iexact Hb4
    isplitl [Hf1 Hf2 Hf3 Hf4]
    · isplitl [Hf1]; · iexact Hf1
      isplitl [Hf2]; · iexact Hf2
      isplitl [Hf3]; · iexact Hf3
      iexact Hf4
    isplitl [Hat]; · iexact Hat
    isplitl [Hcb]; · iexact Hcb
    isplitl [HB]; · iexact HB
    iexact HK
  iintro ⟨HO, Hat, Hlent, HB, HK⟩
  ihave Hlent := (Entails.of_eq (bigSep5 _)) $$ Hlent
  icases Hlent with ⟨He0, He1, He2, He3, He4⟩
  rw [wp_bind]
  iapply (wp_take m c 0) $$ HX
  iintro HX
  ihave HP := (copied_none m c gp) $$ HP
  iapply (wp_copyFrom m c 2 0 (by decide)) $$ [HX HP]
  · isplitl [HX]; · iexact HX
    iexact HP
  iintro ⟨HX, HP⟩
  rw [wp_bind]
  rw [part3_eq]
  iapply (wp_copyFrom m c 6 2 (by decide)) $$ [HX HP]
  · isplitl [HX]; · iexact HX
    iexact HP
  iintro ⟨HX, HP⟩
  rw [wp_bind]
  rw [part4_eq]
  iapply (wp_copyFrom m c 6 8 (by decide)) $$ [HX HP]
  · isplitl [HX]; · iexact HX
    iexact HP
  iintro ⟨HX, HP⟩
  rw [wp_bind]
  rw [part5_eq]
  iapply (wp_copyFrom m c 6 14 (by decide)) $$ [HX HP]
  · isplitl [HX]; · iexact HX
    iexact HP
  iintro ⟨HX, HP⟩
  rw [wp_bind]
  rw [part6_eq]
  iapply (wp_copyFrom m c 6 20 (by decide)) $$ [HX HP]
  · isplitl [HX]; · iexact HX
    iexact HP
  iintro ⟨HX, HP⟩
  obtain ⟨w₇, h7⟩ := part7_eq (chunkX m c 26) w₁
  rw [wp_bind, h7, wp_bind]
  iapply (wp_copyFrom m c 5 26 (by decide)) $$ [HX HP]
  · isplitl [HX]; · iexact HX
    iexact HP
  iintro ⟨HX, HP⟩
  rw [wp_bind]
  iapply (wp_put_chunk m c 31 (by decide) _ rfl) $$ HP
  iintro HP
  ihave HP := (show copied m c 32 ⊢ pPt m c from copied_all m c) $$ HP
  rw [wp_ret]; imodintro
  rw [wp_bind]
  iapply (part8_ok m K c _ _) $$ [HO HP HK HA Hs0 He0 Hd0 Ht0]
  · isplitr; · iexact Hn
    isplitl [HO]; · iexact HO
    isplitl [HP]; · iexact HP
    isplitl [HK]; · iexact HK
    isplitl [HA]; · iexact HA
    isplitl [Hs0]; · iexact Hs0
    isplitl [He0]; · iexact He0
    isplitl [Hd0]; · iexact Hd0
    iexact Ht0
  iintro %w₈ ⟨HO, Hcs, HP, HK, HA⟩
  rw [wp_bind]
  iapply (part9_ok m K c _ _ _) $$ [HO HS0 Hcs HR0 Hc0 HA Hs1]
  · isplitr; · iexact Hn
    isplitl [HO]; · iexact HO
    isplitl [HS0 Hcs HR0 Hc0]
    · isplitl [HS0]; · iexact HS0
      isplitl [Hcs]; · iexact Hcs
      isplitl [HR0]; · iexact HR0
      iexact Hc0
    isplitl [HA]; · iexact HA
    iexact Hs1
  iintro %w₉ ⟨HO, HS0, Hs0, HR0, Hg0, HA, Hs1⟩
  dsimp only
  rw [wp_bind]
  iapply (part10_ok m K c _ _ _ _ _ rfl) $$ [HO Hs1 He1 Hd1 Ht1 HS1 HR1 Hc1]
  · isplitr; · iexact Hn
    isplitl [HO]; · iexact HO
    isplitl [Hs1]; · iexact Hs1
    isplitl [He1]; · iexact He1
    isplitl [Hd1]; · iexact Hd1
    isplitl [Ht1]; · iexact Ht1
    isplitl [HS1]; · iexact HS1
    isplitl [HR1]; · iexact HR1
    iexact Hc1
  iintro %w₁₀ ⟨HO, HS1, Hs1, HR1, Hg1⟩
  rcases w₁₀ with ⟨u₁, u₂, u₃, u₄⟩
  dsimp only
  rw [wp_bind]
  iapply (part11_ok m K c _ _ _ _ _ _) $$ [HO HA Hg0 Hg1 Hs2 He2 Hd2 Ht2 HS2]
  · isplitr; · iexact Hn
    isplitl [HO]; · iexact HO
    isplitl [HA]; · iexact HA
    isplitl [Hg0]; · iexact Hg0
    isplitl [Hg1]; · iexact Hg1
    isplitl [Hs2]; · iexact Hs2
    isplitl [He2]; · iexact He2
    isplitl [Hd2]; · iexact Hd2
    isplitl [Ht2]; · iexact Ht2
    iexact HS2
  iintro ⟨HO, HA, Hg0, Hg1, HS2, Hs2⟩
  rw [wp_bind]
  iapply (part12_ok m K c _ _ _ _ _) $$ [HO HA Hg0 Hg1 HR2 Hc2]
  · isplitr; · iexact Hn
    isplitl [HO]; · iexact HO
    isplitl [HA]; · iexact HA
    isplitl [Hg0]; · iexact Hg0
    isplitl [Hg1]; · iexact Hg1
    isplitl [HR2]; · iexact HR2
    iexact Hc2
  iintro %w₁₂ ⟨HO, HA, Hg0, Hg1, HR2, Hg2⟩
  dsimp only
  rw [wp_bind]
  iapply (part13_ok m K c _ _ _ rfl) $$ [HO Hg2 Hs3 He3 Hd3 Ht3 HS3 HR3 Hc3]
  · isplitr; · iexact Hn
    isplitl [HO]; · iexact HO
    isplitl [Hg2]; · iexact Hg2
    isplitl [Hs3]; · iexact Hs3
    isplitl [He3]; · iexact He3
    isplitl [Hd3]; · iexact Hd3
    isplitl [Ht3]; · iexact Ht3
    isplitl [HS3]; · iexact HS3
    isplitl [HR3]; · iexact HR3
    iexact Hc3
  iintro %w₁₃ ⟨HO, Hg2, HS3, Hs3, HR3, Hg3⟩
  rcases w₁₃ with ⟨u₅, u₆⟩
  dsimp only
  rw [wp_bind]
  iapply (part14_ok m K c _ _ _ _ _ _) $$ [HA Hg0 Hg1 Hg2 Hg3 Hs4]
  · isplitr; · iexact Hn
    isplitl [HA]; · iexact HA
    isplitl [Hg0]; · iexact Hg0
    isplitl [Hg1]; · iexact Hg1
    isplitl [Hg2]; · iexact Hg2
    isplitl [Hg3]; · iexact Hg3
    iexact Hs4
  iintro %w₁₄ ⟨HA, Hg0, Hg1, Hg2, Hg3, Hs4⟩
  rw [wp_bind]
  iapply (part15_ok m K c _ _ _ _) $$ [HO HA Hg0 Hs4 He4 Hd4 Ht4 HS4 HR4 Hc4]
  · isplitr; · iexact Hn
    isplitl [HO]; · iexact HO
    isplitl [HA]; · iexact HA
    isplitl [Hg0]; · iexact Hg0
    isplitl [Hs4]; · iexact Hs4
    isplitl [He4]; · iexact He4
    isplitl [Hd4]; · iexact Hd4
    isplitl [Ht4]; · iexact Ht4
    isplitl [HS4]; · iexact HS4
    isplitl [HR4]; · iexact HR4
    iexact Hc4
  iintro %w₁₅ ⟨HO, HA, Hg0, HS4, Hs4, HR4, Hg4⟩
  dsimp only
  imod (close_all m K c) $$ [Hat HS0 HS1 HS2 HS3 HS4 HR0 HR1 HR2 HR3 HR4] with Hz
  · isplitr; · iexact Hn
    isplitl [Hat]; · iexact Hat
    rw [bigSep5, bigSep5]
    isplitl [HS0 HS1 HS2 HS3 HS4]
    · isplitl [HS0]; · iexact HS0
      isplitl [HS1]; · iexact HS1
      isplitl [HS2]; · iexact HS2
      isplitl [HS3]; · iexact HS3
      iexact HS4
    isplitl [HR0]; · iexact HR0
    isplitl [HR1]; · iexact HR1
    isplitl [HR2]; · iexact HR2
    isplitl [HR3]; · iexact HR3
    iexact HR4
  conv => rhs; change W c (closing c _) _
  iapply (closing_ok m c _ rfl) $$ [Hg1 Hg2 Hg3 Hg4 Hout]
  · isplitl [Hg1]; · iexact Hg1
    isplitl [Hg2]; · iexact Hg2
    isplitl [Hg3]; · iexact Hg3
    isplitl [Hg4]; · iexact Hg4
    iexact Hout
  iintro ⟨Hg1, Hg2, Hg3, Hg4, Hout⟩
  ihave HO := (show owing c (owR c 0) ⊢ owing c 0 from Entails.of_eq rfl) $$ HO
  iapply Hk
  unfold pPt kPt aPt
  rw [bigSep5, bigSep5]
  isplitl [HP HK HA Hs0 Hs1 Hs2 Hs3 Hs4 Hg0 Hg1 Hg2 Hg3 Hg4]
  · isplitl [HP]; · iexists _; iexact HP
    isplitl [HK]; · iexists _; iexact HK
    isplitl [HA]; · iexists _; iexact HA
    isplitl [Hs0 Hs1 Hs2 Hs3 Hs4]
    · isplitl [Hs0]; · iexact Hs0
      isplitl [Hs1]; · iexact Hs1
      isplitl [Hs2]; · iexact Hs2
      isplitl [Hs3]; · iexact Hs3
      iexact Hs4
    isplitl [Hg0]; · iexists _; iexact Hg0
    isplitl [Hg1]; · iexists _; iexact Hg1
    isplitl [Hg2]; · iexists _; iexact Hg2
    isplitl [Hg3]; · iexists _; iexact Hg3
    iexists _; iexact Hg4
  isplitl [Hz]; · iexact Hz
  isplitl [HO]; · iexact HO
  isplitl [HX]; · iexact HX
  isplitl [HB]; · iexact HB
  iexact Hout

/-! ## The pipeline's obligation -/

/-- A staging buffer whole, at contents equal to `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- Before the one grid point, and after it. -/
def bodyPre : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
def bodyPost : sProp 𝕄 :=
  iprop(Φ₁ c ∗ (dats m 0 c).owesAt () t0_0.succ ∗ stg c cc0_stg0_0 (xA m c) ∗ stg c cc0_stg1_0 (xB m c) ∗ stg c cc0_stg2_0 (outV m c))

theorem body_run : bodyPre m c ⊢ W c (bodyAt0 t0_0) (fun _ => bodyPost m c) := by
  unfold bodyPre Φ₀ start ghost Dat.owesAt Pipeline.owesWithin
  iintro ⟨⟨⟨⟨%K, #Hr, Hpl, Htk⟩, Hcb, Hcs, #Hl⟩, Hsc⟩, ⟨%V, %hV, HO⟩, ⟨%d0, %g0, %hg0, Hx⟩, ⟨%d1, %g1, %hg1, Hb⟩, ⟨%d2, %g2, %hg2, Ho⟩⟩
  have hx : g0 = xA m c := by rw [hg0]; unfold Dat.before; rw [if_pos (fetch0_0 t0_0)]; rfl
  have hb : g1 = xB m c := by rw [hg1]; unfold Dat.before; rw [if_pos (fetch0_1 t0_0)]; rfl
  subst hx hb
  rw [show (dats m 0 c).owed t0_0.castSucc = owB c 5 from rfl]
  iapply (sound_body m K c) $$ [Hpl Htk Hcb Hcs Hsc HO Hx Hb Ho]
  · isplitr
    · unfold known; isplitr; · iexact Hr
      iexact Hl
    isplitl [Hpl]; · iexact Hpl
    isplitl [Htk]; · iexact Htk
    isplitl [Hcb]; · iexact Hcb
    isplitl [Hcs]; · iexact Hcs
    isplitl [Hsc]; · iexact Hsc
    isplitl [HO]; · unfold owing; iexists V; iexact HO
    isplitl [Hx]; · unfold xPt; iexact Hx
    isplitl [Hb]; · unfold bPt; iexact Hb
    iexists g2; iexact Ho
  unfold bodyPost Φ₁ owing xPt bPt Dat.owesAt Pipeline.owesWithin
  rw [show (dats m 0 c).owed t0_0.succ = 0 from rfl]
  iintro ⟨Hsc, Hz, ⟨%V', HO⟩, Hx, Hb, Ho⟩
  isplitl [Hsc Hz]
  · isplitl [Hsc]; · iexact Hsc
    iexact Hz
  isplitl [HO]
  · iexists V'
    isplitr; · ipureintro; exact fun _ _ => Or.inl trivial
    iexact HO
  isplitl [Hx]
  · iexists _; isplitr; · (ipureintro; rfl)
    iexact Hx
  isplitl [Hb]
  · iexists _; isplitr; · (ipureintro; rfl)
    iexact Hb
  iexists _; isplitr; · (ipureintro; rfl)
  iexact Ho

/-- What the pipeline asks of the body. -/
theorem body_obligation : BodyObligation (dats (F := F) m 0 c) (defs₀ (F := F)) 𝒱₀ () Set.univ := fun t => by
  rw [fin_N0 t]
  rw [bigSep_W0, bigSep_W0]
  simp only [owns_whole_eq]
  exact body_run m c

end Cert.KernelIdeal.Cube

end
-- ==== Proof.Launch.lean ====
/-
# The launch

At the start every device holds its own cells' tokens; they are dealt around, each to the device that pays the duty. From
there the bodies run, and every run ends with the results staged out, the operands unchanged and the counters at zero.
-/
module

public import proofs.«01_k».proof.Proof.Sound
public import Idealize.ShloMosaic.Lib.Pipeline.CollectiveSegs

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

/-- The ten semaphores of the kernel's own. -/
abbrev osem : Fin 5 ⊕ Fin 5 → SemLoc sig := Sum.elim (fun s => .dma (sendS s)) (fun s => .dma (recvS s))
theorem ownSemFacts : Pipeline.OwnSemFacts cfg0.spec osem := by decide

omit [FloatOps F] in
/-- A family over the eleven cells: the barrier's, the send cells', the receive cells'. -/
theorem bigSep11 (Φ : Fin 11 → sProp 𝕄) : bigSep Finset.univ Φ
    = iprop(Φ 0 ∗ (bigSep Finset.univ fun s : Fin 5 => Φ (sI s)) ∗ bigSep Finset.univ fun s : Fin 5 => Φ (rI s)) := by
  rw [bigSep_univ_equiv (((Equiv.refl (Fin 1)).sumCongr (finSumFinEquiv (m := 5) (n := 5))).trans (finSumFinEquiv (m := 1) (n := 10))) Φ,
    bigSep_univ_sum, bigSep_univ_sum, show (Finset.univ : Finset (Fin 1)) = {0} from rfl, bigSep_singleton]
  rfl

omit [FloatOps F] in
/-- The kernel's own counters, -/
theorem ownSems0_eq (c : Dev nD) : (Pipeline.ownSems0 (Ix := Unit) (Name := ℕ) (U := UU) (Lvl := ℕ) (Val := Elt F) (τ := τ) osem c : sProp 𝕄)
    = iprop((bigSep Finset.univ fun s : Fin 5 => semVal (sendC s c) 0) ∗ bigSep Finset.univ fun s : Fin 5 => semVal (recvC s c) 0) := by
  unfold Pipeline.ownSems0; rw [bigSep_univ_sum]; rfl
omit [FloatOps F] in
/-- and the barrier's, the one counter of the launch's. -/
theorem unscopedSems0_eq (c : Dev nD) : (unscopedSems0 c : sProp 𝕄) = semVal (barC c) 0 := by
  unfold unscopedSems0; rw [bigSep_eq_bigSepL_of_eq [SemLoc.reg barS] (by decide) (by decide)]; rfl

omit [FloatOps F] in
theorem kcell_send (c : Dev nD) (s : Fin 5) : kcell (c, sI s) = sendC s c := by unfold kcell; rw [csem_send]
omit [FloatOps F] in
theorem kcell_recv (c : Dev nD) (s : Fin 5) : kcell (c, rI s) = recvC s c := by unfold kcell; rw [csem_recv]

omit [FloatOps F] in
/-- A family over the cells of a device, by name. -/
theorem bigSep_cells (c : Dev nD) (Φ : GSem nD τ sig → sProp 𝕄) : (bigSep Finset.univ fun k : Fin 11 => Φ (kcell (c, k)))
    = iprop(Φ (barC c) ∗ (bigSep Finset.univ fun s : Fin 5 => Φ (sendC s c)) ∗ bigSep Finset.univ fun s : Fin 5 => Φ (recvC s c)) := by
  rw [bigSep11, bigSep_congr (s := Finset.univ) (fun (s : Fin 5) _ => congrArg Φ (kcell_send c s)),
    bigSep_congr (s := Finset.univ) (fun (s : Fin 5) _ => congrArg Φ (kcell_recv c s))]
  rfl

/-! ## What is minted -/

theorem csem_inj : Function.Injective csem := by decide
theorem kcell_inj : Function.Injective kcell := by
  rintro ⟨c, k⟩ ⟨c', k'⟩ h
  obtain rfl : c = c' := congrArg (fun g : GSem nD τ sig => g.1.1) h
  obtain rfl := csem_inj (congrArg Prod.snd h)
  rfl
def xCells : Finset (GSem nD τ sig) := Finset.univ.map ⟨kcell, kcell_inj⟩

/-- The duties of a device's own cells: five of the barrier's, one of each send cell, one of each receive cell. -/
abbrev tokOf (x : Dev nD × (Fin 5 ⊕ (Fin 5 ⊕ Fin 5))) : GSem nD τ sig × ℕ × Fin 5 := match x.2 with
  | .inl s => (barC x.1, 0, s) | .inr (.inl s) => (sendC s x.1, 0, 0) | .inr (.inr s) => (recvC s x.1, 0, 0)
theorem tokOf_inj : Function.Injective tokOf := by
  have hk : Function.Injective fun j : Fin 5 ⊕ (Fin 5 ⊕ Fin 5) => (((tokOf (0, j)).1.2, (tokOf (0, j)).2.2) : SemLoc sig × Fin 5) := by decide
  rintro ⟨c, j⟩ ⟨c', j'⟩ h
  have hs (c : Dev nD) (j) : (((tokOf (c, j)).1.2, (tokOf (c, j)).2.2) : SemLoc sig × Fin 5) = ((tokOf (0, j)).1.2, (tokOf (0, j)).2.2) := by
    rcases j with s | s | s <;> rfl
  have hd (c : Dev nD) (j) : (tokOf (c, j)).1.1.1 = c := by rcases j with s | s | s <;> rfl
  obtain rfl : c = c' := by rw [← hd c j, h, hd]
  obtain rfl : j = j' := hk (by show (_, _) = (_, _); rw [← hs c j, h, hs])
  rfl
def xToks : Finset (GSem nD τ sig × ℕ × Fin 5) := Finset.univ.map ⟨tokOf, tokOf_inj⟩

def u₀ : UU := (initOf (Pipeline.cells cfgs cellOf_inj) (Pipeline.launchToks cfgs cellOf_inj), initOf xCells xToks)

/-- The tokens of a device's own cells. -/
def toks (c : Dev nD) : sProp 𝕄 :=
  iprop((bigSep Finset.univ fun s : Fin 5 => dutyTok EX (barC c) 0 s) ∗ (bigSep Finset.univ fun s : Fin 5 => dutyTok EX (sendC s c) 0 0)
    ∗ bigSep Finset.univ fun s : Fin 5 => dutyTok EX (recvC s c) 0 0)

/-- What a device is dealt, and what the step over all devices makes of it. -/
def G (c : Dev nD) : sProp 𝕄 :=
  iprop((bigSep Finset.univ fun k : Fin 11 => roundState EX (sched m) (kcell (c, k)) 0)
    ∗ (bigSep Finset.univ fun k : Fin 11 => iprop(atPos EX (kcell (c, k)) 0 ∅ 0 ∗ reached EX (kcell (c, k)) 0)) ∗ toks c)
def G' (c : Dev nD) : sProp 𝕄 := iprop(∃ K, ghost m K c)

theorem fund_all : BI.own (EX (initOf xCells xToks)) ⊢ (|==> bigSep Finset.univ (G m) : sProp 𝕄) := by
  have hX (Φ : GSem nD τ sig → sProp 𝕄) : bigSep xCells Φ = bigSep Finset.univ fun c : Dev nD => bigSep Finset.univ fun k : Fin 11 => Φ (kcell (c, k)) := by
    unfold xCells; rw [bigSep_map, bigSep_univ_prod]; rfl
  have hT : bigSep xToks (fun x => (dutyTok EX x.1 x.2.1 x.2.2 : sProp 𝕄)) = bigSep Finset.univ fun c : Dev nD => toks c := by
    unfold xToks; rw [bigSep_map, bigSep_univ_prod]
    exact bigSep_congr fun c _ => by unfold toks; rw [bigSep_univ_sum, bigSep_univ_sum]; rfl
  iintro HX
  imod (Rounds.fund EX (sched m) xCells xToks) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The step over all devices -/

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems0_eq, unscopedSems0_eq, bigSep_cells c fun g => (semVal g 0 : sProp 𝕄)]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Fin 11 => semVal (kcell (c, k)) 0) ∗ bigSep Finset.univ fun k : Fin 11 => roundState EX (sched m) (kcell (c, k)) 0)
      ⊢ (|={Set.univ}=> bigSep Finset.univ fun k => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
/-- A family over devices and steps, each step's members exchanged between partners. -/
theorem around (Φ : Fin 5 → Dev nD → sProp 𝕄) :
    (bigSep Finset.univ fun c : Dev nD => bigSep Finset.univ fun s : Fin 5 => Φ s c)
      = bigSep Finset.univ fun c : Dev nD => bigSep Finset.univ fun s : Fin 5 => Φ s (partner s c) := by
  rw [bigSep_univ_comm, bigSep_univ_comm fun (c : Dev nD) (s : Fin 5) => Φ s (partner s c)]
  exact bigSep_congr fun s _ => bigSep_univ_equiv (swap s) (Φ s)

omit [FloatOps F] in
/-- The tokens dealt around: the barriers' and the receive cells' to the partners. -/
theorem toks_around : (bigSep Finset.univ fun c : Dev nD => (toks c : sProp 𝕄)) = bigSep Finset.univ fun c : Dev nD => payToks c := by
  unfold toks payToks
  rw [bigSep_sep', bigSep_sep', bigSep_sep', bigSep_sep', around fun s c => dutyTok EX (barC c) 0 s, around fun s c => dutyTok EX (recvC s c) 0 0]

theorem regroup :
    (bigSep Finset.univ fun c : Dev nD => iprop((bigSep Finset.univ fun k => iprop(∃ κ : ℕ, cellInv EX (sched m) κ (kcell (c, k))))
          ∗ (bigSep Finset.univ fun k => iprop(atPos EX (kcell (c, k)) 0 ∅ 0 ∗ reached EX (kcell (c, k)) 0)) ∗ toks c) : sProp 𝕄)
      ⊢ bigSep Finset.univ (G' m) := by
  rw [bigSep_sep', bigSep_sep', ← bigSep_univ_prod (fun ck : Dev nD × Fin 11 => iprop(∃ κ : ℕ, cellInv EX (sched m) κ (kcell ck))),
    bigSep_congr (s := Finset.univ) (fun (c : Dev nD) _ => bigSep_sep' Finset.univ (fun k : Fin 11 => (atPos EX (kcell (c, k)) 0 ∅ 0 : sProp 𝕄)) (fun k => reached EX (kcell (c, k)) 0)),
    bigSep_sep', ← bigSep_univ_prod (fun ck : Dev nD × Fin 11 => (reached EX (kcell ck) 0 : sProp 𝕄)), toks_around,
    bigSep_congr (s := Finset.univ) (fun (c : Dev nD) _ => (bigSep_cells c fun g => (atPos EX g 0 ∅ 0 : sProp 𝕄)))]
  iintro ⟨HI, ⟨Hat, #HR⟩, Htok⟩
  ihave HK := (BI.bigSep_exists_pi Finset.univ (fun (ck : Dev nD × Fin 11) (κ : ℕ) => (cellInv EX (sched m) κ (kcell ck) : sProp 𝕄))) $$ HI
  icases HK with ⟨%K, #HI⟩
  have each (c : Dev nD) : iprop(records m K ∗ places c ∗ payToks c) ⊢ G' m c := by
    unfold G' ghost; iintro H; iexists K; iexact H
  have all : iprop((bigSep Finset.univ fun _ : Dev nD => records m K) ∗ (bigSep Finset.univ fun c : Dev nD => places (F := F) c)
      ∗ bigSep Finset.univ fun c : Dev nD => payToks (F := F) c) ⊢ bigSep Finset.univ (G' m) := by
    rw [← bigSep_sep', ← bigSep_sep']
    exact bigSep_mono fun c _ => each c
  iapply all
  isplitr
  · iapply (BI.bigSep_of_persistent (Finset.univ : Finset (Dev nD)) (records m K))
    unfold records
    isplitr; · iexact HI
    iexact HR
  isplitl [Hat]; · unfold places; iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit dealt at launch -/

omit [FloatOps F] in
/-- What all owe `c`'s receive cells, a step at a time; -/
theorem credR (c : Dev nD) (k : ℕ) : (Pipeline.launchCred (fun d => owR d (k + 1)) c : sProp 𝕄)
    ⊢ iprop(Pipeline.launchCred (fun d => owR d k) c ∗ cred (tallyAt (recvC (fromEnd k) c) () (cr (fromEnd k)))) :=
  (Entails.of_eq (Pipeline.launchCred_add (fun d => owR d k) (fun d => tallyAt (recvC (fromEnd k) (partner (fromEnd k) d)) () (cr (fromEnd k))) c)).trans
    (sep_mono_right (Pipeline.launchCred_tallyAt (.dma (recvS (fromEnd k))) (partner (fromEnd k)) (partner (fromEnd k))
      (partner_partner _) (partner_partner _) () _ c))

omit [FloatOps F] in
/-- and its barrier, all the steps' units together. -/
theorem credB (c : Dev nD) (k : ℕ) : (Pipeline.launchCred (fun d => owB d k) c : sProp 𝕄)
    ⊢ iprop(Pipeline.launchCred (fun d => owR d 5) c ∗ cred (tallyAt (barC c) () k)) := by
  induction k with
  | zero =>
    rw [tallyAt_zero, cred_zero]
    show (Pipeline.launchCred (fun d => owR d 5) c : sProp 𝕄) ⊢ _
    iintro H
    isplitl; · iexact H
    iempintro
  | succ k ih =>
    have h : (Pipeline.launchCred (fun d => owB d (k + 1)) c : sProp 𝕄) ⊢ iprop(Pipeline.launchCred (fun d => owB d k) c ∗ cred (tallyAt (barC c) () 1)) :=
      (Entails.of_eq (Pipeline.launchCred_add (fun d => owB d k) (fun d => tallyAt (barC (partner (fromEnd k) d)) () 1) c)).trans
        (sep_mono_right (Pipeline.launchCred_tallyAt (.reg barS) (partner (fromEnd k)) (partner (fromEnd k))
          (partner_partner _) (partner_partner _) () _ c))
    rw [← tallyAt_add]
    refine (h.trans (sep_mono_left ih)).trans ?_
    iintro ⟨⟨HR, H1⟩, H2⟩
    isplitl [HR]; · iexact HR
    iapply (cred_add _ _).2
    isplitl [H1]; · iexact H1
    iexact H2

omit [FloatOps F] in
theorem creds (c : Dev nD) : (Pipeline.launchCred (fun d => owB d 5) c : sProp 𝕄)
    ⊢ iprop(cred (tallyAt (barC c) () 5) ∗ bigSep Finset.univ fun s : Fin 5 => cred (tallyAt (recvC s c) () (cr s))) := by
  refine (credB c 5).trans ?_
  rw [bigSep5]
  iintro ⟨HR, HB⟩
  isplitl [HB]; · iexact HB
  ihave H := (credR (F := F) c 4) $$ HR; icases H with ⟨HR, H0⟩
  ihave H := (credR (F := F) c 3) $$ HR; icases H with ⟨HR, H1⟩
  ihave H := (credR (F := F) c 2) $$ HR; icases H with ⟨HR, H2⟩
  ihave H := (credR (F := F) c 1) $$ HR; icases H with ⟨HR, H3⟩
  ihave H := (credR (F := F) c 0) $$ HR; icases H with ⟨-, H4⟩
  isplitl [H0]; · iexact H0
  isplitl [H1]; · iexact H1
  isplitl [H2]; · iexact H2
  isplitl [H3]; · iexact H3
  iexact H4

/-! ## Into and out of the pipeline -/

theorem start_intro (c : Dev nD) :
    iprop(Pipeline.unscopedRestP Pipeline.Prefetch.none cfg0.spec c (fun b => m ((c : Thread nD τ).loc b)) ∗ levAts L lv
        ∗ Pipeline.launchCred (fun d => owB d 5) c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

omit [FloatOps F] in
theorem some_each {A : Type} (P : Fin 5 → A → sProp 𝕄) (a : A) :
    (bigSep Finset.univ fun s : Fin 5 => P s a) ⊢ bigSep Finset.univ fun s : Fin 5 => iprop(∃ a, P s a) :=
  bigSep_mono fun s _ => show P s a ⊢ iprop(∃ a, P s a) from by iintro H; iexists a; iexact H
/-- The scratch buffers as the pipeline gives and takes them back. -/
theorem scratch_intro (c : Dev nD) : (Pipeline.scopedRest cfg0.spec c : sProp 𝕄) ⊢ scratch c := by
  rw [scopedRest0_eq]; unfold scratch
  iintro ⟨HP, HK, HA, ⟨%f, HS⟩, ⟨%g, HR⟩⟩
  isplitl [HP]; · iexact HP
  isplitl [HK]; · iexact HK
  isplitl [HA]; · iexact HA
  ihave HS := (Entails.of_eq (sbuf_split (F := F) c f)) $$ HS
  ihave HR := (Entails.of_eq (rbuf_split (F := F) c g)) $$ HR
  isplitl [HS]
  · iapply (some_each fun s f => sPts (F := F) s c f); iexact HS
  · iapply (some_each fun s f => rPts (F := F) s c f); iexact HR
include m in
theorem scratch_elim (c : Dev nD) : scratch c ⊢ (Pipeline.scopedRest cfg0.spec c : sProp 𝕄) := by
  rw [scopedRest0_eq]; unfold scratch
  iintro ⟨HP, HK, HA, HS, HR⟩
  isplitl [HP]; · iexact HP
  isplitl [HK]; · iexact HK
  isplitl [HA]; · iexact HA
  isplitl [HS]
  · iapply (sbuf_join m c); iexact HS
  · iapply (rbuf_join m c); iexact HR

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scratch_intro c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, ownSems0_eq, unscopedSems0_eq]
  unfold Φ₁ zeros
  iintro ⟨Hr, HzB, HzS⟩
  isplitl [HzB]; · iexact HzB
  isplitl [HzS]; · iexact HzS
  iapply (scratch_elim m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m 0 c).arrAt w cfg0.N

/-- Every fair run ends, with each device's arrays as the pipeline's data say and every counter at zero. -/
theorem run_arrays : θ_run defs (onTc (τ := τ) (main (F := F))) ⟨m, fun _ => 0, ρ⟩ (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := fun c w => (dats m 0 c).share_full (fun _ => rfl) w)
    (hdistinct := winFacts0.arr_inj)
    (O₀ := fun d => owB d 5) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The result array after the run holds what the body staged. -/
theorem finalA_out (c : Dev nD) : finalA m c (2 : Fin 3) = outV m c := by
  have hw : ((cfg0.win 2).blk t0_0).view.read (Elt F) ((dats m 0 c).arrAt 2 cfg0.N) = outV m c := by
    rw [show cfg0.N = t0_0.val + 1 from rfl, (dats m 0 c).arrAt_succ (2 : Fin 3) t0_0, flush0_2, if_pos rfl]
    exact View.read_write_univ _ _
  exact (Memref.read_access_unit_zero (Elt F) main_v1
    (show (fun a => (win0_2.index t0_0) a * main_v1.ty.shape.size a) = fun _ => 0 from funext fun a => by fin_cases a <;> decide)
    (fun a => by fin_cases a <;> decide) (finalA m c 2)).symm.trans hw

/-- Every fair run ends with the results as computed, the operands unchanged and every counter at zero. -/
theorem run_main : θ_run defs (onTc (τ := τ) (main (F := F))) ⟨m, fun _ => 0, ρ⟩ (fun r =>
    (∀ c : Dev nD, r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c 2).trans (finalA_out m c), (h.1 c 0).trans ((dats m 0 c).arrAt_in 0 rfl _),
    (h.1 c 1).trans ((dats m 0 c).arrAt_in 1 rfl _)⟩, h.2⟩) (run_arrays m ρ)

end Cert.KernelIdeal.Cube

end
-- ==== Proof.Teams.lean ====
/-
# Teams

The sums of the recursive halving: the devices whose products a device has gathered after each step, and the rows that
it keeps and sends.
-/
module

public import proofs.«01_k».proof.Proof.Contents

@[expose] public section

set_option maxRecDepth 16384

namespace Cert.KernelIdeal.Cube

open Cert.KernelIdeal Cert.KernelIdeal.Gen
open Idealize.ShloMosaic

/-! ## Sums over the cube -/

/-- The devices that agree with `c` on the bits of the steps from `n` on. -/
def team (n : ℕ) (c : Dev nD) : Finset (Dev nD) :=
  Finset.univ.filter fun d => ∀ t : Fin 5, n ≤ t.val → d.val.testBit (bitOf t) = c.val.testBit (bitOf t)

/-- At first a device is alone; -/
theorem team_zero (c : Dev nD) : team 0 c = {c} := by revert c; decide +kernel
/-- one step joins its team with its partner's, which is another; -/
theorem team_succ (s : Fin 5) (c : Dev nD) : team (s.val + 1) c = team s.val c ∪ team s.val (partner s c) := by
  revert s c; decide +kernel
theorem team_apart (s : Fin 5) (c : Dev nD) : Disjoint (team s.val c) (team s.val (partner s c)) := by
  revert s c; decide +kernel
/-- and at last everybody is in it. -/
theorem team_five (c : Dev nD) : team 5 c = Finset.univ := by revert c; decide +kernel

/-! ## The rows kept and sent -/

/-- Whether the slot of device `c` has step `s`'s bit. -/
def has (s : Fin 5) (c : Dev nD) : ℕ := c.val / 2 ^ bitOf s % 2

/-- The first permuted row that device `c` keeps at step `s`, and the first that it sends away. -/
def kept : Fin 5 → Dev nD → ℕ
  | 0, c => has 0 c * 768
  | 1, c => has 0 c * 768 + has 1 c * 384
  | 2, c => has 0 c * 768 + has 1 c * 384 + has 2 c * 192
  | 3, c => has 0 c * 768 + has 1 c * 384 + has 2 c * 192 + has 3 c * 96
  | 4, c => has 0 c * 768 + has 1 c * 384 + has 2 c * 192 + has 3 c * 96 + has 4 c * 48
def away (s : Fin 5) (c : Dev nD) : ℕ := kept s (partner s c)

/-- The rows a device keeps are those its partner sends. -/
theorem away_partner (s : Fin 5) (c : Dev nD) : away s (partner s c) = kept s c := by unfold away; rw [partner_partner]
/-- The last rows kept are the chunk of the device's own number. -/
theorem kept_four (c : Dev nD) : kept 4 c % 48 = 0 ∧ chunkAt (kept 4 c / 48) = c.val := by revert c; decide +kernel

/-! ## The kernel's offsets -/

/-- A read from `off` on of the kept half of the product starts at permuted row `r`. -/
abbrev Keeps (c : Dev nD) (off : Fin 2 → ℕ) (r : ℕ) : Prop := off 1 = 0 ∧ kept 0 c + off 0 = r
/-- A read of `n` rows from `off` on of the receive buffer lies in step `s`'s region and starts at permuted row `r`. -/
abbrev Lands (s : Fin 5) (c : Dev nD) (off : Fin 2 → ℕ) (n r : ℕ) : Prop :=
  off 1 = 0 ∧ kept s c + off 0 = r + top s ∧ top s ≤ off 0 ∧ off 0 + n ≤ top s + tall s

/-- The two halves of the product are taken from the rows sent away and from the rows kept. -/
theorem at0 (c : Dev nD) : k0_off1 c 1 = 0 ∧ k0_off1 c 0 = away 0 c := by revert c; decide +kernel
theorem off2_at (c : Dev nD) : k0_off2 c 1 = 0 ∧ k0_off2 c 0 = kept 0 c := by revert c; decide +kernel
/-- What is read at each later step starts, in every buffer, at the same permuted row: the first one sent away; -/
theorem at1 (c : Dev nD) : Keeps c (k0_off3 c) (away 1 c) ∧ Lands 0 c (k0_off4 c) 384 (away 1 c) := by
  revert c; decide +kernel
theorem at2 (c : Dev nD) : Keeps c (k0_off5 c) (away 2 c) ∧ Lands 0 c (k0_off6 c) 192 (away 2 c)
    ∧ Lands 1 c (k0_off7 c) 192 (away 2 c) := by
  revert c; decide +kernel
theorem at3 (c : Dev nD) : Keeps c (k0_off8 c) (away 3 c) ∧ Lands 0 c (k0_off9 c) 96 (away 3 c)
    ∧ Lands 1 c (k0_off10 c) 96 (away 3 c) ∧ Lands 2 c (k0_off11 c) 96 (away 3 c) := by
  revert c; decide +kernel
theorem at4 (c : Dev nD) : Keeps c (k0_off12 c) (away 4 c) ∧ Lands 0 c (k0_off13 c) 48 (away 4 c)
    ∧ Lands 1 c (k0_off14 c) 48 (away 4 c) ∧ Lands 2 c (k0_off15 c) 48 (away 4 c) ∧ Lands 3 c (k0_off16 c) 48 (away 4 c) := by
  revert c; decide +kernel
/-- and at the end the last rows kept. -/
theorem at5 (c : Dev nD) : Keeps c (k0_off17 c) (kept 4 c) ∧ Lands 0 c (k0_off18 c) 48 (kept 4 c)
    ∧ Lands 1 c (k0_off19 c) 48 (kept 4 c) ∧ Lands 2 c (k0_off20 c) 48 (kept 4 c) ∧ Lands 3 c (k0_off21 c) 48 (kept 4 c)
    ∧ Lands 4 c (k0_off22 c) 48 (kept 4 c) := by
  revert c; decide +kernel

end Cert.KernelIdeal.Cube
-- ==== Proof.Value.lean ====
/-
# What the devices return

Over the extended reals every rounding is the identity and sums may be taken in any order. After `n` steps device `c`
holds, of each row that it still keeps, the sum of the products of the devices that agree with it on the bits not yet
worked on. After the fifth step that is all of them, and the sum of 32 products over 768 columns each is the product over
all 24576 columns: the rows of the whole product that device `c` is to return.
-/
module

public import proofs.«01_k».proof.Defs
public import proofs.«01_k».proof.Proof.Teams
public import proofs.«01_k».proof.Proof.Gen.ReferenceIdeal
public import Idealize.ShloMosaic.Lib.Pointwise
public import Idealize.ShloMosaic.Lib.Layout

@[expose] public section

set_option maxRecDepth 16384

noncomputable section

namespace Cert.KernelIdeal.Cube

open Cert.KernelIdeal Cert.KernelIdeal.Gen
open Idealize.ShloMosaic
open Idealize.ShloMosaic.TcCoe
open Idealize.SL Idealize.SL.Sem

variable (m : (ℓ : Loc nD τ sig) → Buf (Elt Ideal) ℓ)

/-! ## The sums -/

/-- An element of device `d`'s columns of the left operand, and of its rows of the right one. -/
def aAt (d : Dev nD) (r : Fin 1536) (k : Fin 768) : EReal := xA m d (ix2 r k)
def bAt (d : Dev nD) (k : Fin 768) (j : Fin 1536) : EReal := xB m d (ix2 k j)

/-- Row `r` of the permuted product of device `d`'s operands, at column `j`. -/
def prod (d : Dev nD) (r j : ℕ) : EReal :=
  ∑ k : Fin 768, aAt m d ⟨chunkAt (r / 48) * 48 + r % 48, by have := chunkAt_lt (r / 48); omega⟩ k
    * bAt m d k ⟨j % 1536, Nat.mod_lt _ (by decide)⟩

/-- What device `c` has of it after `n` steps: the sum over its team. -/
def part (n : ℕ) (c : Dev nD) (r j : ℕ) : EReal := ∑ d ∈ team n c, prod m d r j

theorem part_zero (c : Dev nD) (r j : ℕ) : part m 0 c r j = prod m c r j := by
  unfold part; rw [team_zero, Finset.sum_singleton]
/-- One step adds the partner's sum. -/
theorem part_succ (s : Fin 5) (c : Dev nD) (r j : ℕ) : part m (s.val + 1) c r j = part m s.val c r j + part m s.val (partner s c) r j := by
  unfold part; rw [team_succ, Finset.sum_union (team_apart s c)]
theorem part_five (c : Dev nD) (r j : ℕ) : part m 5 c r j = ∑ d : Dev nD, prod m d r j := by
  unfold part; rw [team_five]

/-! ## The reads -/

/-- Region `s` of the buffers at contents `w` holds, on device `c`, the rows sent at step `s`. -/
def Sends (s : Fin 5) (w : Dev nD → (shp s).Idx → Elt Ideal .bf16) : Prop :=
  ∀ c i, (w c i : EReal) = part m s.val c (away s c + (i 0).val) (i 1).val

section Reads

variable (c : Dev nD) (off size : Fin 2 → ℕ)

/-- A product of two blocks, element by element. -/
theorem dot_apply (l : FVec Ideal S768x768 .bf16) (r : FVec Ideal S768x1536 .bf16) (i : S768x1536.Idx) :
    matmul (F := Ideal) (φ₁ := .bf16) (φ₂ := .bf16) dot_S768x768_S768x1536_S768x1536_1_0_0_1_n_n none l r (constant S768x1536 .f32 0x00000000#32) i
      = ∑ k : Fin 768, l (ix2 (i 0) k) * r (ix2 k (i 1)) := by
  simp only [pointwise]
  exact zero_add _

theorem copyB_eq : copyB m c = xB m c := by
  unfold copyB k0_pay2; simp only [shapeCast_self]

/-- The product of the permuted operand's rows from `off 0` on. -/
theorem dot_at (h : ∀ a, off a + S768x768.size a ≤ S1536x768.size a) (h1 : off 1 = 0) (i : S768x1536.Idx) :
    matmul (F := Ideal) (φ₁ := .bf16) (φ₂ := .bf16) dot_S768x768_S768x1536_S768x1536_1_0_0_1_n_n none (ldP m c off h : FVec Ideal S768x768 .bf16)
        (copyB m c : FVec Ideal S768x1536 .bf16) (constant S768x1536 .f32 0x00000000#32) i
      = prod m c (off 0 + (i 0).val) (i 1).val := by
  rw [dot_apply, copyB_eq]
  refine Finset.sum_congr rfl fun k _ => ?_
  have hl : ldP m c off h (ix2 (i 0) k) = aAt m c ⟨chunkAt ((off 0 + (i 0).val) / 48) * 48 + (off 0 + (i 0).val) % 48,
      by have := chunkAt_lt ((off 0 + (i 0).val) / 48); omega⟩ k := by
    show xA m c (rowAt _) = xA m c (ix2 _ k)
    refine congrArg (xA m c) (funext fun a => Fin.ext ?_)
    match a with
    | ⟨0, _⟩ =>
      show chunkAt ((off 0 + 1 * (i 0).val) / 48) * 48 + (off 0 + 1 * (i 0).val) % 48
        = chunkAt ((off 0 + (i 0).val) / 48) * 48 + (off 0 + (i 0).val) % 48
      rw [Nat.one_mul]
    | ⟨1, _⟩ =>
      show off 1 + 1 * k.val = k.val
      omega
  have hr : xB m c (ix2 k (i 1)) = bAt m c k ⟨(i 1).val % 1536, Nat.mod_lt _ (by decide)⟩ :=
    congrArg (fun j => xB m c (ix2 k j)) (Fin.ext (Nat.mod_eq_of_lt (i 1).isLt).symm)
  exact congrArg₂ (fun x y : EReal => x * y) hl hr

/-- A read of the kept half of the product. -/
theorem acc_at (h : ∀ a, off a + size a ≤ S768x1536.size a) (r : ℕ) (hr : Keeps c off r)
    (i : (Rect.unit (s := S768x1536) off size h).toLoadRect.shape.Idx) :
    (aM.view.readAt (Elt Ideal) (Rect.unit (s := S768x1536) off size h).toLoadRect (accA m c) i : EReal)
      = part m 0 c (r + (i 0).val) (i 1).val := by
  obtain ⟨h1, hr⟩ := hr
  have e : ∀ i, accA m c i = prod m c (kept 0 c + (i 0).val) (i 1).val := fun i => by
    unfold accA k0_pay41
    simp only [shapeCast_self]
    refine (dot_at m c _ _ (off2_at c).1 i).trans ?_
    rw [(off2_at c).2]
  rw [part_zero]
  refine (e _).trans ?_
  show prod m c (kept 0 c + (off 0 + 1 * (i 0).val)) (off 1 + 1 * (i 1).val) = _
  rw [h1, ← hr, Nat.one_mul, Nat.one_mul, Nat.zero_add, Nat.add_assoc]

/-- A read of rows that landed: the partner's sums of the same rows. -/
theorem land_at (s : Fin 5) (w : Dev nD → (shp s).Idx → Elt Ideal .bf16) (hw : Sends m s w)
    (h : ∀ a, off a + size a ≤ S1488x1536.size a) (r : ℕ) (hr : Lands s c off (size 0) r)
    (i : (Rect.unit (s := S1488x1536) off size h).toLoadRect.shape.Idx) :
    (ldR (landAt s w c) off size h i : EReal) = part m s.val (partner s c) (r + (i 0).val) (i 1).val := by
  obtain ⟨h1, hr, hlo, hhi⟩ := hr
  have hi : (i 0).val < size 0 := (i 0).isLt
  refine (hw _ _).trans ?_
  rw [away_partner]
  show part m s.val (partner s c) (kept s c + (off 0 + 1 * (i 0).val - top s) % tall s) (off 1 + 1 * (i 1).val) = _
  rw [Nat.mod_eq_of_lt (by omega), h1]
  congr 1 <;> omega

end Reads

/-! ## Step by step -/

/-- At step 0 the other half of the device's own product goes out; -/
theorem sends0 : Sends m 0 (sent0 m) := fun c i => by
  refine Eq.trans ?_ (part_zero m c _ _).symm
  rw [← (at0 c).2]
  refine Eq.trans ?_ (dot_at m c (k0_off1 c) (k0_off1_inb c) (at0 c).1 i)
  unfold sent0 k0_pay40
  simp only [shapeCast_self]
  rfl

/-- Sums of a device and of its partner, as the kernel adds them up, make one sum of the next step. -/
theorem add_step (s : Fin 5) (c : Dev nD) (r j : ℕ) {x y : EReal} (hx : x = part m s.val c r j)
    (hy : y = part m s.val (partner s c) r j) : x + y = part m (s.val + 1) c r j := by
  rw [part_succ, hx, hy]

/-- and at each later step the rows of the sum so far that the partner keeps. -/
theorem sends1 : Sends m 1 (sent1 m) := fun c i => by
  obtain ⟨a, l0⟩ := at1 c
  refine Eq.trans ?_ (add_step m 0 c _ _ (acc_at m c _ _ (k0_off3_inb c) _ a i)
    (land_at m c _ _ 0 _ (sends0 m) (k0_off4_inb c) _ l0 i))
  unfold sent1 k0_pay43 k0_pay42
  simp only [shapeCast_self]
  rfl

theorem sends2 : Sends m 2 (sent2 m) := fun c i => by
  obtain ⟨a, l0, l1⟩ := at2 c
  refine Eq.trans ?_ (add_step m 1 c _ _ (add_step m 0 c _ _ (acc_at m c _ _ (k0_off5_inb c) _ a i)
    (land_at m c _ _ 0 _ (sends0 m) (k0_off6_inb c) _ l0 i)) (land_at m c _ _ 1 _ (sends1 m) (k0_off7_inb c) _ l1 i))
  unfold sent2 k0_pay44
  simp only [shapeCast_self]
  rfl

theorem sends3 : Sends m 3 (sent3 m) := fun c i => by
  obtain ⟨a, l0, l1, l2⟩ := at3 c
  refine Eq.trans ?_ (add_step m 2 c _ _ (add_step m 1 c _ _ (add_step m 0 c _ _ (acc_at m c _ _ (k0_off8_inb c) _ a i)
    (land_at m c _ _ 0 _ (sends0 m) (k0_off9_inb c) _ l0 i)) (land_at m c _ _ 1 _ (sends1 m) (k0_off10_inb c) _ l1 i))
    (land_at m c _ _ 2 _ (sends2 m) (k0_off11_inb c) _ l2 i))
  unfold sent3 k0_pay46 k0_pay45
  simp only [shapeCast_self]
  rfl

theorem sends4 : Sends m 4 (sent4 m) := fun c i => by
  obtain ⟨a, l0, l1, l2, l3⟩ := at4 c
  refine Eq.trans ?_ (add_step m 3 c _ _ (add_step m 2 c _ _ (add_step m 1 c _ _ (add_step m 0 c _ _
    (acc_at m c _ _ (k0_off12_inb c) _ a i)
    (land_at m c _ _ 0 _ (sends0 m) (k0_off13_inb c) _ l0 i)) (land_at m c _ _ 1 _ (sends1 m) (k0_off14_inb c) _ l1 i))
    (land_at m c _ _ 2 _ (sends2 m) (k0_off15_inb c) _ l2 i)) (land_at m c _ _ 3 _ (sends3 m) (k0_off16_inb c) _ l3 i))
  unfold sent4 k0_pay47
  simp only [shapeCast_self]
  rfl

/-- The block that device `c` returns: over its last rows, the sum of all devices' products. -/
theorem outV_at (c : Dev nD) (i : S48x1536.Idx) : outV m c i = ∑ d : Dev nD, prod m d (kept 4 c + (i 0).val) (i 1).val := by
  obtain ⟨a, l0, l1, l2, l3, l4⟩ := at5 c
  rw [← part_five m c]
  refine Eq.trans ?_ (add_step m 4 c _ _ (add_step m 3 c _ _ (add_step m 2 c _ _ (add_step m 1 c _ _ (add_step m 0 c _ _
    (acc_at m c _ _ (k0_off17_inb c) _ a i)
    (land_at m c _ _ 0 _ (sends0 m) (k0_off18_inb c) _ l0 i)) (land_at m c _ _ 1 _ (sends1 m) (k0_off19_inb c) _ l1 i))
    (land_at m c _ _ 2 _ (sends2 m) (k0_off20_inb c) _ l2 i)) (land_at m c _ _ 3 _ (sends3 m) (k0_off21_inb c) _ l3 i))
    (land_at m c _ _ 4 _ (sends4 m) (k0_off22_inb c) _ l4 i))
  unfold outV k0_pay1 k0_pay48
  simp only [shapeCast_self]
  rfl

/-! ## The whole product -/

/-- A staged operand is the argument's array. -/
theorem xA_eq (c : Dev nD) : xA m c = m ((c : Thread nD τ).loc main_arg0) :=
  Memref.read_access_unit_zero (Elt Ideal) main_arg0
    (show (fun a => (win0_0.index t0_0) a * main_arg0.ty.shape.size a) = fun _ => 0 from funext fun a => by fin_cases a <;> decide)
    (fun a => by fin_cases a <;> decide) _
theorem xB_eq (c : Dev nD) : xB m c = m ((c : Thread nD τ).loc main_arg1) :=
  Memref.read_access_unit_zero (Elt Ideal) main_arg1
    (show (fun a => (win0_1.index t0_0) a * main_arg1.ty.shape.size a) = fun _ => 0 from funext fun a => by fin_cases a <;> decide)
    (fun a => by fin_cases a <;> decide) _

/-- The reference's function of the whole arrays. -/
abbrev refV (x : FVec Ideal ⟨2, ![1536, 24576]⟩ .bf16) (y : FVec Ideal ⟨2, ![24576, 1536]⟩ .bf16) :
    FVec Ideal ⟨2, ![1536, 1536]⟩ .f32 :=
  extf .f32 (truncf .bf16 (Host.dotGeneral Cert.ReferenceIdeal.dot_S1536x24576_S24576x1536_S1536x1536_1_0_0_1_n_n none x y)
    (by decide)) (by decide)

/-- It is the plain product: the sum over all 24576 columns. -/
theorem refV_apply (x : FVec Ideal ⟨2, ![1536, 24576]⟩ .bf16) (y : FVec Ideal ⟨2, ![24576, 1536]⟩ .bf16)
    (i : (⟨2, ![1536, 1536]⟩ : Shape).Idx) : refV x y i = ∑ k : Fin 24576, x (ix2 (i 0) k) * y (ix2 k (i 1)) := by
  simp only [pointwise]
  exact zero_add _

/-- A sum over 24576 columns is the sum over the devices of the sums over their 768. -/
theorem sum_columns (f : Fin 24576 → EReal) :
    ∑ k, f k = ∑ d : Dev nD, ∑ k : Fin 768, f ⟨d.val * 768 + k.val, by have := d.isLt; have := k.isLt; simp only [nD] at *; omega⟩ := by
  rw [← Equiv.sum_comp (finProdFinEquiv (m := 32) (n := 768)) f, Fintype.sum_prod_type]
  refine Finset.sum_congr rfl fun d _ => Finset.sum_congr rfl fun k _ => congrArg f (Fin.ext ?_)
  show k.val + 768 * d.val = d.val * 768 + k.val
  omega

/-- Each device returns its block of the rows of the reference's product. -/
theorem outV_block (x : FVec Ideal ⟨2, ![1536, 24576]⟩ .bf16) (y : FVec Ideal ⟨2, ![24576, 1536]⟩ .bf16)
    (hx : ∀ c : Dev nD, m ((c : Thread nD τ).loc main_arg0) = Layout.block ⟨2, ![1536, 768]⟩ ⟨2, ![1536, 24576]⟩ 1 32 c x)
    (hy : ∀ c : Dev nD, m ((c : Thread nD τ).loc main_arg1) = Layout.block ⟨2, ![768, 1536]⟩ ⟨2, ![24576, 1536]⟩ 0 32 c y)
    (c : Dev nD) : outV m c = Layout.block ⟨2, ![48, 1536]⟩ ⟨2, ![1536, 1536]⟩ 0 32 c (refV x y) := by
  funext i
  refine (outV_at m c i).trans (Eq.trans ?_ (refV_apply x y _).symm)
  refine Eq.trans (α := EReal) ?_ (sum_columns _).symm
  refine Finset.sum_congr rfl fun d _ => Finset.sum_congr rfl fun k _ => ?_
  have hi : (i 0).val < 48 := (i 0).isLt
  have hj : (i 1).val < 1536 := (i 1).isLt
  obtain ⟨k0, k1⟩ := kept_four c
  unfold aAt bAt
  rw [xA_eq, xB_eq, hx, hy]
  refine congrArg₂ (fun a b : EReal => a * b) (congrArg x (funext fun a => Fin.ext ?_)) (congrArg y (funext fun a => Fin.ext ?_))
  · match a with
    | ⟨0, _⟩ =>
      show chunkAt ((kept 4 c + (i 0).val) / 48) * 48 + (kept 4 c + (i 0).val) % 48 = c.val * 48 + (i 0).val
      rw [show (kept 4 c + (i 0).val) / 48 = kept 4 c / 48 by omega, k1]
      omega
    | ⟨1, _⟩ => rfl
  · match a with
    | ⟨0, _⟩ => rfl
    | ⟨1, _⟩ => exact Nat.mod_eq_of_lt hj

end Cert.KernelIdeal.Cube

end
-- ==== Proof.lean ====
/-
# The certificate of the kernel

The frames of the three programs and the value claim, put together from the modules under `Proof/`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- Over any float values the idealized program runs, leaves its arguments and ends with every counter at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Cube.run_main m ρ)

/-- The kernel's text is the idealized program's: the body under its one label, -/
theorem defs₀_eq {F : FTy → Type} [FloatOps F] : Cert.Kernel.defs₀ (F := F) = Cert.KernelIdeal.defs₀ (F := F) := by
  refine congrArg Defs.onTc (funext fun l => ?_)
  match l with
  | ⟨0, _⟩ => exact funext fun x => rfl
  | ⟨_ + 1, h⟩ => exact absurd h (Nat.not_lt.2 (Nat.le_add_left _ _))
/-- and the table of bodies. -/
theorem defs_eq {F : FTy → Type} [FloatOps F] : Cert.Kernel.defs (F := F) = Cert.KernelIdeal.defs (F := F) :=
  congrArg (Pipeline.defs Cert.KernelIdeal.pcfgs) defs₀_eq

/-- So the kernel runs as that program does, -/
theorem frame_kernel : Cert.quiescent_Kernel := fun m ρ _ => by
  rw [defs_eq]
  exact frame_any (F := Bits) m ρ

/-- and so does the idealized program at the extended reals. -/
theorem frame_kernelIdeal : Cert.quiescent_KernelIdeal := fun m ρ _ => frame_any (F := Ideal) m ρ

/-- The reference runs on the host alone and has no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device returns its block of the rows of the reference's product. -/
theorem value : Cert.algebraic_KernelIdeal_ReferenceIdeal := fun m ρ m' ρ' _ blocks =>
  ⟨Cert.KernelIdeal.Cube.refV (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.Cube.outV_block m _ _ (fun c => (blocks c).1) (fun c => (blocks c).2) c), (h.1 c).2⟩)
      (Cert.KernelIdeal.Cube.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
